-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_finite_KernelIdeal [hPre_routed_finite_KernelIdeal : Cert.Pre_routed_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_finite_ReferenceIdeal [hPre_routed_finite_ReferenceIdeal : Cert.Pre_routed_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_finite_KernelIdeal [hKernelIdeal : Cert.KernelIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_finite_ReferenceIdeal [hReferenceIdeal : Cert.ReferenceIdeal.Facts] [hPre_routed_finite_ReferenceIdeal : Cert.Pre_routed_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_finite_KernelIdeal [hKernelIdeal : Cert.KernelIdeal.Facts] [hReferenceIdeal : Cert.ReferenceIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_finite_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![8192, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_finite_KernelIdeal : Cert.Pre_routed_finite_KernelIdeal.Facts) (hPre_routed_finite_ReferenceIdeal : Cert.Pre_routed_finite_ReferenceIdeal.Facts),
    quiescent_Kernel (hKernel := hKernel)
    ∧ quiescent_KernelIdeal (hKernelIdeal := hKernelIdeal)
    ∧ quiescent_KernelIdeal_pre_routed_finite_KernelIdeal (hKernelIdeal := hKernelIdeal) (hPre_routed_finite_KernelIdeal := hPre_routed_finite_KernelIdeal)
    ∧ quiescent_ReferenceIdeal (hReferenceIdeal := hReferenceIdeal)
    ∧ quiescent_ReferenceIdeal_pre_routed_finite_ReferenceIdeal (hReferenceIdeal := hReferenceIdeal) (hPre_routed_finite_ReferenceIdeal := hPre_routed_finite_ReferenceIdeal)
    ∧ preserves_Kernel_KernelIdeal
    ∧ algebraic_KernelIdeal_ReferenceIdeal_pre_routed_finite_KernelIdeal (hKernelIdeal := hKernelIdeal) (hReferenceIdeal := hReferenceIdeal) (hPre_routed_finite_KernelIdeal := hPre_routed_finite_KernelIdeal)
-- ==== Pre_routed_finite_KernelIdeal.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S2048x1 : Shape := ⟨2, ![2048, 1]⟩
abbrev S_ : Shape := ⟨0, ![]⟩

class Facts : Prop where
  slices_S2048x2_S2048x1_0_0 : S2048x2.Slices ![0, 0] S2048x1
  slices_S2048x2_S2048x1_0_1 : S2048x2.Slices ![0, 1] S2048x1
  bcast_S_S2048x1 : S_.BroadcastsInDim S2048x1 (![] : Fin 0 → Fin S2048x1.rank)
  bcast_S_S2048x512 : S_.BroadcastsInDim S2048x512 (![] : Fin 0 → Fin S2048x512.rank)
  bcast_S_S512x16 : S_.BroadcastsInDim S512x16 (![] : Fin 0 → Fin S512x16.rank)

variable [Facts]

def fn_part1 {F : FTy → Type} [FloatOps F] (main_v12 : IVec S2048x1 1) (main_v15 : IVec S2048x512 1) (main_v16 : FVec F S512x16 .bf16) (main_v17 : FVec F S512x16 .bf16) : IVec S2048x512 1 × IVec S512x16 1 × IVec S2048x1 1 :=
  let main_v18 : IVec S512x16 1 := cmpf .olt main_v16 main_v17
  (main_v15, main_v18, main_v12)

def fn {F : FTy → Type} [FloatOps F] (main_arg0 : FVec F S2048x512 .bf16) (main_arg1 : FVec F S512x16 .bf16) (main_arg2 : IVec S2048x2 32) (main_arg3 : FVec F S4x512x1024 .bf16) : IVec S2048x512 1 × IVec S512x16 1 × IVec S2048x1 1 :=
  let main_v0 : IVec S2048x1 32 := (extractStridedSlice S2048x1 ![0, 0] · slices_S2048x2_S2048x1_0_0) main_arg2
  let main_v1 : IVec S2048x1 32 := (extractStridedSlice S2048x1 ![0, 1] · slices_S2048x2_S2048x1_0_1) main_arg2
  let main_c : IVec S_ 32 := constantI S_ 32 0#32
  let main_v2 : IVec S2048x1 32 := broadcastInDim S2048x1 ![] bcast_S_S2048x1 main_c
  let main_v3 : IVec S2048x1 1 := cmpi .sge main_v0 main_v2
  let main_c_0 : IVec S_ 32 := constantI S_ 32 16#32
  let main_v4 : IVec S2048x1 32 := broadcastInDim S2048x1 ![] bcast_S_S2048x1 main_c_0
  let main_v5 : IVec S2048x1 1 := cmpi .slt main_v0 main_v4
  let main_v6 : IVec S2048x1 1 := andi main_v3 main_v5
  let main_c_1 : IVec S_ 32 := constantI S_ 32 0#32
  let main_v7 : IVec S2048x1 32 := broadcastInDim S2048x1 ![] bcast_S_S2048x1 main_c_1
  let main_v8 : IVec S2048x1 1 := cmpi .sge main_v1 main_v7
  let main_c_2 : IVec S_ 32 := constantI S_ 32 16#32
  let main_v9 : IVec S2048x1 32 := broadcastInDim S2048x1 ![] bcast_S_S2048x1 main_c_2
  let main_v10 : IVec S2048x1 1 := cmpi .slt main_v1 main_v9
  let main_v11 : IVec S2048x1 1 := andi main_v8 main_v10
  let main_v12 : IVec S2048x1 1 := ori main_v6 main_v11
  let main_v13 : FVec F S2048x512 .bf16 := Host.absf main_arg0
  let main_cst : FVec F S_ .bf16 := constant S_ .bf16 0x7F80#16
  let main_v14 : FVec F S2048x512 .bf16 := broadcastInDim S2048x512 ![] bcast_S_S2048x512 main_cst
  let main_v15 : IVec S2048x512 1 := cmpf .olt main_v13 main_v14
  let main_v16 : FVec F S512x16 .bf16 := Host.absf main_arg1
  let main_cst_3 : FVec F S_ .bf16 := constant S_ .bf16 0x7F80#16
  let main_v17 : FVec F S512x16 .bf16 := broadcastInDim S512x16 ![] bcast_S_S512x16 main_cst_3
  fn_part1 (F := F) main_v12 main_v15 main_v16 main_v17
-- ==== Pre_routed_finite_ReferenceIdeal.lean ====
abbrev S8192x512 : Shape := ⟨2, ![8192, 512]⟩
abbrev S512x16 : Shape := ⟨2, ![512, 16]⟩
abbrev S8192x2 : Shape := ⟨2, ![8192, 2]⟩
abbrev S16x512x1024 : Shape := ⟨3, ![16, 512, 1024]⟩
abbrev S8192x1 : Shape := ⟨2, ![8192, 1]⟩
abbrev S_ : Shape := ⟨0, ![]⟩

class Facts : Prop where
  slices_S8192x2_S8192x1_0_0 : S8192x2.Slices ![0, 0] S8192x1
  slices_S8192x2_S8192x1_0_1 : S8192x2.Slices ![0, 1] S8192x1
  bcast_S_S8192x1 : S_.BroadcastsInDim S8192x1 (![] : Fin 0 → Fin S8192x1.rank)
  bcast_S_S8192x512 : S_.BroadcastsInDim S8192x512 (![] : Fin 0 → Fin S8192x512.rank)
  bcast_S_S512x16 : S_.BroadcastsInDim S512x16 (![] : Fin 0 → Fin S512x16.rank)

variable [Facts]

def fn_part1 {F : FTy → Type} [FloatOps F] (main_v12 : IVec S8192x1 1) (main_v15 : IVec S8192x512 1) (main_v16 : FVec F S512x16 .bf16) (main_v17 : FVec F S512x16 .bf16) : IVec S8192x512 1 × IVec S512x16 1 × IVec S8192x1 1 :=
  let main_v18 : IVec S512x16 1 := cmpf .olt main_v16 main_v17
  (main_v15, main_v18, main_v12)

def fn {F : FTy → Type} [FloatOps F] (main_arg0 : FVec F S8192x512 .bf16) (main_arg1 : FVec F S512x16 .bf16) (main_arg2 : IVec S8192x2 32) (main_arg3 : FVec F S16x512x1024 .bf16) : IVec S8192x512 1 × IVec S512x16 1 × IVec S8192x1 1 :=
  let main_v0 : IVec S8192x1 32 := (extractStridedSlice S8192x1 ![0, 0] · slices_S8192x2_S8192x1_0_0) main_arg2
  let main_v1 : IVec S8192x1 32 := (extractStridedSlice S8192x1 ![0, 1] · slices_S8192x2_S8192x1_0_1) main_arg2
  let main_c : IVec S_ 32 := constantI S_ 32 0#32
  let main_v2 : IVec S8192x1 32 := broadcastInDim S8192x1 ![] bcast_S_S8192x1 main_c
  let main_v3 : IVec S8192x1 1 := cmpi .sge main_v0 main_v2
  let main_c_0 : IVec S_ 32 := constantI S_ 32 16#32
  let main_v4 : IVec S8192x1 32 := broadcastInDim S8192x1 ![] bcast_S_S8192x1 main_c_0
  let main_v5 : IVec S8192x1 1 := cmpi .slt main_v0 main_v4
  let main_v6 : IVec S8192x1 1 := andi main_v3 main_v5
  let main_c_1 : IVec S_ 32 := constantI S_ 32 0#32
  let main_v7 : IVec S8192x1 32 := broadcastInDim S8192x1 ![] bcast_S_S8192x1 main_c_1
  let main_v8 : IVec S8192x1 1 := cmpi .sge main_v1 main_v7
  let main_c_2 : IVec S_ 32 := constantI S_ 32 16#32
  let main_v9 : IVec S8192x1 32 := broadcastInDim S8192x1 ![] bcast_S_S8192x1 main_c_2
  let main_v10 : IVec S8192x1 1 := cmpi .slt main_v1 main_v9
  let main_v11 : IVec S8192x1 1 := andi main_v8 main_v10
  let main_v12 : IVec S8192x1 1 := ori main_v6 main_v11
  let main_v13 : FVec F S8192x512 .bf16 := Host.absf main_arg0
  let main_cst : FVec F S_ .bf16 := constant S_ .bf16 0x7F80#16
  let main_v14 : FVec F S8192x512 .bf16 := broadcastInDim S8192x512 ![] bcast_S_S8192x512 main_cst
  let main_v15 : IVec S8192x512 1 := cmpf .olt main_v13 main_v14
  let main_v16 : FVec F S512x16 .bf16 := Host.absf main_arg1
  let main_cst_3 : FVec F S_ .bf16 := constant S_ .bf16 0x7F80#16
  let main_v17 : FVec F S512x16 .bf16 := broadcastInDim S512x16 ![] bcast_S_S512x16 main_cst_3
  fn_part1 (F := F) main_v12 main_v15 main_v16 main_v17
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S2048x1024 : Shape := ⟨2, ![2048, 1024]⟩
abbrev S4x4x512x1024 : Shape := ⟨4, ![4, 4, 512, 1024]⟩
abbrev S2048x16 : Shape := ⟨2, ![2048, 16]⟩
abbrev S16 : Shape := ⟨1, ![16]⟩
abbrev S1x4x512x1024 : Shape := ⟨4, ![1, 4, 512, 1024]⟩
abbrev S_ : Shape := ⟨0, ![]⟩
abbrev S1 : Shape := ⟨1, ![1]⟩
abbrev S1x1x512x1024 : Shape := ⟨4, ![1, 1, 512, 1024]⟩
abbrev S512x1024 : Shape := ⟨2, ![512, 1024]⟩
abbrev S2048 : Shape := ⟨1, ![2048]⟩
abbrev S2048x1 : Shape := ⟨2, ![2048, 1]⟩
abbrev S2048x2048 : Shape := ⟨2, ![2048, 2048]⟩
abbrev S1x1x256x1024 : Shape := ⟨4, ![1, 1, 256, 1024]⟩
abbrev S256x1024 : Shape := ⟨2, ![256, 1024]⟩
abbrev S1x2x512x1024 : Shape := ⟨4, ![1, 2, 512, 1024]⟩
abbrev S2x512x1024 : Shape := ⟨3, ![2, 512, 1024]⟩
abbrev S1024x1024 : Shape := ⟨2, ![1024, 1024]⟩
abbrev S2048x256 : Shape := ⟨2, ![2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x2, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S512x16, .bf16⟩
  | .local _ .vmem, ⟨2, _⟩ => ⟨S2048x2, .i32⟩
  | .local _ .vmem, ⟨3, _⟩ => ⟨S4x512x1024, .bf16⟩
  | .local _ .vmem, ⟨4, _⟩ => ⟨S2048x1024, .f32⟩
  | .local _ .vmem, ⟨5, _⟩ => ⟨S4x4x512x1024, .bf16⟩
  | .local _ .vmem, ⟨6, _⟩ => ⟨S2048x16, .f32⟩
  | .local _ .vmem, ⟨7, _⟩ => ⟨S2048x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_10 : BitVec 32 := 1#32
  let v13 : BitVec 32 := Scalar.muli v4 c1_i32_10
  let v14 : BitVec 32 := Scalar.addi c0_i32 v13
  v14.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_12 : BitVec 32 := 1#32
  let v15 : BitVec 32 := Scalar.muli v6 c1_i32_12
  let v16 : BitVec 32 := Scalar.addi c0_i32_13 v15
  v16.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_20 : BitVec 32 := 1#32
  let v17 : BitVec 32 := Scalar.muli v6 c1_i32_20
  let v18 : BitVec 32 := Scalar.addi c0_i32_21 v17
  v18.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_32 : BitVec 32 := 1#32
  let v27 : BitVec 32 := Scalar.muli v6 c1_i32_32
  let v28 : BitVec 32 := Scalar.addi c0_i32_33 v27
  v28.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_44 : BitVec 32 := 1#32
  let v37 : BitVec 32 := Scalar.muli v6 c1_i32_44
  let v38 : BitVec 32 := Scalar.addi c0_i32_45 v37
  v38.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_56 : BitVec 32 := 1#32
  let v47 : BitVec 32 := Scalar.muli v6 c1_i32_56
  let v48 : BitVec 32 := Scalar.addi c0_i32_57 v47
  v48.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_67 : BitVec 32 := 1#32
  let v57 : BitVec 32 := Scalar.muli v4 c1_i32_67
  let v58 : BitVec 32 := Scalar.addi c0_i32_68 v57
  v58.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_78 : BitVec 32 := 1#32
  let v67 : BitVec 32 := Scalar.muli v4 c1_i32_78
  let v68 : BitVec 32 := Scalar.addi c0_i32_79 v67
  v68.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_89 : BitVec 32 := 1#32
  let v77 : BitVec 32 := Scalar.muli v4 c1_i32_89
  let v78 : BitVec 32 := Scalar.addi c0_i32_90 v77
  v78.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_101 : BitVec 32 := 1#32
  let v87 : BitVec 32 := Scalar.muli v4 c1_i32_101
  let v88 : BitVec 32 := Scalar.addi c0_i32_102 v87
  v88.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_185 : BitVec 32 := 1#32
  let v210 : BitVec 32 := Scalar.muli v6 c1_i32_185
  let v211 : BitVec 32 := Scalar.addi c0_i32_186 v210
  v211.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_196 : BitVec 32 := 1#32
  let v220 : BitVec 32 := Scalar.muli v6 c1_i32_196
  let v221 : BitVec 32 := Scalar.addi c0_i32_197 v220
  v221.toNat
def k0_dev13 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_218 : BitVec 32 := 1#32
  let v238 : BitVec 32 := Scalar.muli v6 c1_i32_218
  let v239 : BitVec 32 := Scalar.addi c0_i32_219 v238
  v239.toNat
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_229 : BitVec 32 := 1#32
  let v248 : BitVec 32 := Scalar.muli v6 c1_i32_229
  let v249 : BitVec 32 := Scalar.addi c0_i32_230 v248
  v249.toNat
def k0_dev15 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_252 : BitVec 32 := 1#32
  let v266 : BitVec 32 := Scalar.muli v4 c1_i32_252
  let v267 : BitVec 32 := Scalar.addi c0_i32_253 v266
  v267.toNat
def k0_dev16 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_263 : BitVec 32 := 1#32
  let v276 : BitVec 32 := Scalar.muli v4 c1_i32_263
  let v277 : BitVec 32 := Scalar.addi c0_i32_264 v276
  v277.toNat
def k0_dev17 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_286 : BitVec 32 := 1#32
  let v294 : BitVec 32 := Scalar.muli v4 c1_i32_286
  let v295 : BitVec 32 := Scalar.addi c0_i32_287 v294
  v295.toNat
def k0_dev18 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_297 : BitVec 32 := 1#32
  let v304 : BitVec 32 := Scalar.muli v4 c1_i32_297
  let v305 : BitVec 32 := Scalar.addi c0_i32_298 v304
  v305.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x16 : Shape := ⟨2, ![512, 16]⟩
abbrev S8192x2 : Shape := ⟨2, ![8192, 2]⟩
abbrev S16x512x1024 : Shape := ⟨3, ![16, 512, 1024]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16x1024 : Shape := ⟨3, ![8192, 16, 1024]⟩
abbrev S8192x16x1 : Shape := ⟨3, ![8192, 16, 1]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x16, .bf16⟩
  | .hbm, ⟨2, _⟩ => ⟨S8192x2, .i32⟩
  | .hbm, ⟨3, _⟩ => ⟨S16x512x1024, .bf16⟩
  | .hbm, ⟨4, _⟩ => ⟨S8192x512, .f32⟩
  | .hbm, ⟨5, _⟩ => ⟨S512x16, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x16, .f32⟩
  | .hbm, ⟨17, _⟩ => ⟨S8192x16, .f32⟩
  | .hbm, ⟨18, _⟩ => ⟨S8192x1, .i32⟩
  | .hbm, ⟨19, _⟩ => ⟨S8192, .i32⟩
  | .hbm, ⟨20, _⟩ => ⟨S8192x1, .i32⟩
  | .hbm, ⟨21, _⟩ => ⟨S1x16, .i32⟩
  | .hbm, ⟨22, _⟩ => ⟨S8192x16, .i32⟩
  | .hbm, ⟨23, _⟩ => ⟨S8192x16, .i32⟩
  | .hbm, ⟨24, _⟩ => ⟨S8192x16, .i1⟩
  | .hbm, ⟨25, _⟩ => ⟨S8192x16, .f32⟩
  | .hbm, ⟨26, _⟩ => ⟨S8192x1, .i32⟩
  | .hbm, ⟨27, _⟩ => ⟨S8192, .i32⟩
  | .hbm, ⟨28, _⟩ => ⟨S8192x1, .i32⟩
  | .hbm, ⟨29, _⟩ => ⟨S1x16, .i32⟩
  | .hbm, ⟨30, _⟩ => ⟨S8192x16, .i32⟩
  | .hbm, ⟨31, _⟩ => ⟨S8192x16, .i32⟩
  | .hbm, ⟨32, _⟩ => ⟨S8192x16, .i1⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x16, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1, .f32⟩
  | .hbm, ⟨43, _⟩ => ⟨S16x512x1024, .f32⟩
  | .hbm, ⟨44, _⟩ => ⟨S8192x16x1024, .f32⟩
  | .hbm, ⟨45, _⟩ => ⟨S8192x16x1, .f32⟩
  | .hbm, ⟨46, _⟩ => ⟨S8192x16x1024, .f32⟩
  | .hbm, ⟨47, _⟩ => ⟨S8192x16x1024, .f32⟩
  | .hbm, ⟨48, _⟩ => ⟨S_, .f32⟩
  | .hbm, ⟨49, _⟩ => ⟨S8192x1024, .f32⟩
  | .hbm, ⟨50, _⟩ => ⟨S8192x16x1, .f32⟩
  | .hbm, ⟨51, _⟩ => ⟨S8192x16x1024, .f32⟩
  | .hbm, ⟨52, _⟩ => ⟨S8192x16x1024, .f32⟩
  | .hbm, ⟨53, _⟩ => ⟨S_, .f32⟩
  | .hbm, ⟨54, _⟩ => ⟨S8192x1024, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Proto.lean ====
/-
The exchange of expert blocks round the ring of four devices, as a protocol.

Every device `c` keeps four slots of expert blocks in one scratch buffer (the exchange buffer): slot 0 its own
experts, slot 1 its left neighbour's, slot 2 its right neighbour's, slot 3 the opposite device's. Sixteen copies
leave each device, numbered 0 to 15. Copies 0-3 take the four blocks of slot 0 to the right neighbour's slot 1,
copies 4-7 take them to the left neighbour's slot 2. Copies 8-11 forward the first two blocks of slot 1, in halves, to the right
neighbour's slot 3, and copies 12-15 forward the last two blocks of slot 2, in halves, to the left neighbour's slot 3.

Semaphores of a device: a barrier (two units, one from each neighbour; a neighbour's unit hands over the buffer
parts the copies towards it will fill), sixteen send semaphores (a copy's source comes back) and sixteen receive
semaphores (a copy's landed block, at its contents, comes in). Each is used for one round only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The state of the exchange's schedule … -/
abbrev UB : Type := URounds (GSem nD τ sig) Bool
/-- … and with it that of the staging copies. -/
abbrev UU : Type := UR sig nD τ × UB

local notation "𝕄" => MT nD τ sig Unit (Elt F) ℕ UU ℕ

/-- The staging copies' part … -/
abbrev EP : Emb (UR sig nD τ) (MT nD τ sig Unit (Elt F) ℕ UU ℕ) := embL
/-- … and the exchange's. -/
abbrev ER : Emb UB (MT nD τ sig Unit (Elt F) ℕ UU ℕ) := embR

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
/-- The left neighbour of the right neighbour is the device itself … -/
theorem prv_nxt (c : Dev nD) : prv (nxt c) = c := by revert c; decide
/-- … and so is the right neighbour of the left one. -/
theorem nxt_prv (c : Dev nD) : nxt (prv c) = c := by revert c; decide
/-- A step along the ring, as a permutation of the devices. -/
def ring : Dev nD ≃ Dev nD := ⟨nxt, prv, prv_nxt, nxt_prv⟩

/-- Whether copy `n` goes to the right. -/
def isR (n : Fin 16) : Bool := decide (n.val < 4) || (decide (8 ≤ n.val) && decide (n.val < 12))
/-- Where copy `n` of device `c` goes. -/
def dstD (c : Dev nD) (n : Fin 16) : Dev nD := if isR n then nxt c else prv c
/-- Whose copy `n` arrives at `c`. -/
def srcD (c : Dev nD) (n : Fin 16) : Dev nD := if isR n then prv c else nxt c
/-- The copy that arrives at `c` was sent to `c` … -/
theorem dstD_srcD (c : Dev nD) (n : Fin 16) : dstD (srcD c n) n = c := by revert c n; decide
/-- … and the copy that `c` sends arrives as a copy of `c`'s. -/
theorem srcD_dstD (c : Dev nD) (n : Fin 16) : srcD (dstD c n) n = c := by revert c n; decide

/-- Whose experts slot `s` of device `c` holds. -/
def slotDev (c : Dev nD) (s : ℕ) : Dev nD := match s with | 0 => c | 1 => prv c | 2 => nxt c | _ => nxt (nxt c)

/-! ## The semaphores -/

/-- The barrier, … -/
abbrev barS : Sem sig := (SemArray.scalar (sig.barrier 0 rfl) : Sems sig S_).sem
/-- … the semaphore on which copy `n`'s sender learns that it has left, … -/
def sndS (n : Fin 16) : DmaSem sig := ⟨5 + n.val, by have := n.isLt; show 5 + n.val < 37; omega⟩
/-- … and the one on which its target learns that it has landed. -/
def rcvS (n : Fin 16) : DmaSem sig := ⟨21 + n.val, by have := n.isLt; show 21 + n.val < 37; omega⟩

/-- Device `c`'s barrier, … -/
abbrev barCell (c : Dev nD) : GSem nD τ sig := ((c : Thread nD τ), .reg barS)
/-- … its send semaphore of copy `n`, … -/
abbrev sndCell (c : Dev nD) (n : Fin 16) : GSem nD τ sig := ((c : Thread nD τ), .dma (sndS n))
/-- … and its receive semaphore of copy `n`. -/
abbrev rcvCell (c : Dev nD) (n : Fin 16) : GSem nD τ sig := ((c : Thread nD τ), .dma (rcvS n))

/-! ## The exchange buffer and its pieces -/

/-- The exchange buffer, … -/
abbrev cM : Memref sig .tc .vmem S4x4x512x1024 .bf16 := Memref.whole cc0_scratch0
/-- … and where it lies on device `c`. -/
abbrev cLoc (c : Dev nD) : Loc nD τ sig := (c : Thread nD τ).loc cc0_scratch0

/-- The indices of the exchange buffer from `o` on, `sz` along each axis. -/
def box (o sz : Fin 4 → ℕ) : Finset S4x4x512x1024.Idx := Finset.univ.filter fun i => ∀ a, o a ≤ (i a).val ∧ (i a).val < o a + sz a
/-- An index lies in a box if each coordinate does … -/
theorem mem_box {o sz : Fin 4 → ℕ} {i : S4x4x512x1024.Idx} : i ∈ box o sz ↔ ∀ a, o a ≤ (i a).val ∧ (i a).val < o a + sz a := by
  unfold box; rw [Finset.mem_filter]; exact ⟨fun h => h.2, fun h => ⟨Finset.mem_univ _, h⟩⟩
/-- … that is, if all four do. -/
theorem mem_box4 {o sz : Fin 4 → ℕ} {i : S4x4x512x1024.Idx} : i ∈ box o sz ↔
    (o 0 ≤ (i 0).val ∧ (i 0).val < o 0 + sz 0) ∧ (o 1 ≤ (i 1).val ∧ (i 1).val < o 1 + sz 1)
      ∧ (o 2 ≤ (i 2).val ∧ (i 2).val < o 2 + sz 2) ∧ (o 3 ≤ (i 3).val ∧ (i 3).val < o 3 + sz 3) := by
  rw [mem_box]
  exact ⟨fun h => ⟨h 0, h 1, h 2, h 3⟩, fun ⟨h0, h1, h2, h3⟩ a => by fin_cases a <;> assumption⟩

/-- The size of copy `n`'s block, where it is read and where it lands. -/
def bsz (n : Fin 16) : Fin 4 → ℕ := if n.val < 8 then ![1, 1, 512, 1024] else ![1, 1, 256, 1024]
/-- The slot that copy `n` reads … -/
def sSlot (n : Fin 16) : ℕ := if n.val < 8 then 0 else if n.val < 12 then 1 else 2
/-- … and the one it lands in. -/
def dSlot (n : Fin 16) : ℕ := if n.val < 4 then 1 else if n.val < 8 then 2 else 3
/-- The expert of the slot … -/
def oRow (n : Fin 16) : ℕ := if n.val < 8 then n.val % 4 else (n.val - 8) / 2
/-- … and the first row of it that copy `n` carries. -/
def oHalf (n : Fin 16) : ℕ := if n.val < 8 then 0 else 256 * (n.val % 2)
/-- Where copy `n`'s source begins … -/
def sOff (n : Fin 16) : Fin 4 → ℕ := ![sSlot n, oRow n, oHalf n, 0]
/-- … and its landing place. -/
def dOff (n : Fin 16) : Fin 4 → ℕ := ![dSlot n, oRow n, oHalf n, 0]
/-- The elements of the source … -/
abbrev sSet (n : Fin 16) := box (sOff n) (bsz n)
/-- … and of the landing place. -/
abbrev dSet (n : Fin 16) := box (dOff n) (bsz n)
/-- Slot 0. -/
abbrev slot0 := box ![0, 0, 0, 0] ![1, 4, 512, 1024]

/-- The share of its source a copy takes with it. -/
def shr (n : Fin 16) : PosShare TreeShare := if n.val < 4 then fullShare.left else if n.val < 8 then fullShare.right.left else fullShare.left

/-- What a device knows how to read as its own experts, and what the exchange buffer holds when everything has landed. -/
def commOf (W : Dev nD → Vec F S4x512x1024 .bf16) (c : Dev nD) : Vec F S4x4x512x1024 .bf16 :=
  fun i => W (slotDev c (i 0).val) (ix3 (i 1) (i 2) (i 3))

/-- A copy's landing place at its target is to hold what its source holds. -/
theorem slotDev_to (c : Dev nD) (n : Fin 16) : slotDev (dstD c n) (dSlot n) = slotDev c (sSlot n) := by revert c n; decide

/-- The credit of a whole expert. -/
abbrev creditA : ℕ := ((cM.slice (Rect.unit (s := S4x4x512x1024) ![0, 0, 0, 0] S1x1x512x1024.size inb_S4x4x512x1024_S1x1x512x1024_0_0_0_0) (fun _ => rfl)).squeeze S512x1024 squeezes_S1x1x512x1024_S512x1024).view.dmaCredit
/-- The credit of a half expert. -/
abbrev creditB : ℕ := ((cM.slice (Rect.unit (s := S4x4x512x1024) ![3, 0, 0, 0] S1x1x256x1024.size inb_S4x4x512x1024_S1x1x256x1024_3_0_0_0) (fun _ => rfl)).squeeze S256x1024 squeezes_S1x1x256x1024_S256x1024).view.dmaCredit
/-- The credit of copy `n` … -/
def amt (n : Fin 16) : ℕ := if n.val < 8 then creditA else creditB
/-- … which is never zero. -/
theorem amt_pos (n : Fin 16) : 0 < amt n := by
  unfold amt; split
  · exact View.dmaCredit_pos _ (by decide)
  · exact View.dmaCredit_pos _ (by decide)

section Views
variable {o sz : Fin 4 → ℕ} {h : ∀ a, o a + sz a ≤ S4x4x512x1024.size a} {hr : ∀ a, (Rect.unit (s := S4x4x512x1024) o sz h).stride a = 1}
  {t : Shape} {hq : (Rect.unit (s := S4x4x512x1024) o sz h).shape.Squeezes t}

/-- A block of the exchange buffer as the copies name it: a slice with its unit axes dropped. -/
abbrev blk (o sz : Fin 4 → ℕ) (h : ∀ a, o a + sz a ≤ S4x4x512x1024.size a) (hr : ∀ a, (Rect.unit (s := S4x4x512x1024) o sz h).stride a = 1)
    (t : Shape) (hq : (Rect.unit (s := S4x4x512x1024) o sz h).shape.Squeezes t) : Memref sig .tc .vmem t .bf16 :=
  ((Memref.whole cc0_scratch0 : Memref sig .tc .vmem S4x4x512x1024 .bf16).slice (Rect.unit (s := S4x4x512x1024) o sz h) hr).squeeze t hq

/-- A rectangle of the buffer is a box of indices. -/
theorem rect_box : (Rect.unit (s := S4x4x512x1024) o sz h).set = box o sz := by
  ext i; rw [Rect.mem_set_unit, mem_box]

/-- The elements such a block covers. -/
theorem blk_set : (blk o sz h hr t hq).view.set = box o sz := by
  refine (View.set_reshape _ _).trans ((View.set_slice_whole cc0_scratch0 _).trans ?_)
  exact rect_box

/-- Where such a block's index sits in the buffer. -/
theorem blk_emb (x : t.Idx) (a : Fin 4) :
    (((blk o sz h hr t hq).view.emb x : S4x4x512x1024.Idx) a).val = o a + ((Shape.reshapeEquiv hq.numel_eq x : (Rect.unit (s := S4x4x512x1024) o sz h).shape.Idx) a).val := by
  show (((Rect.unit (s := S4x4x512x1024) o sz h).emb (Shape.reshapeEquiv hq.numel_eq x)) a).val = _
  rw [Rect.emb_apply]; simp

/-- A block of size `sz` copied from offset `o` of one buffer over offset `o'` of another: an element of the landing place
    holds what the source holds at the same position of its block. -/
theorem blk_landing {o' : Fin 4 → ℕ} {h' : ∀ a, o' a + sz a ≤ S4x4x512x1024.size a} {hr' : ∀ a, (Rect.unit (s := S4x4x512x1024) o' sz h').stride a = 1}
    {hq' : (Rect.unit (s := S4x4x512x1024) o' sz h').shape.Squeezes t}
    (fd fs g : Vec F S4x4x512x1024 .bf16) (hg : ∀ i j : S4x4x512x1024.Idx, (∀ a, (i a).val + o a = (j a).val + o' a) → j ∈ box o sz → i ∈ box o' sz → g i = fs j) :
    ∀ i ∈ box o' sz, ((blk o' sz h' hr' t hq').view.write (Elt F) fd ((blk o sz h hr t hq).view.read (Elt F) fs) Finset.univ : Vec F S4x4x512x1024 .bf16) i = g i := by
  intro i hi
  rw [← blk_set (h := h') (hr := hr') (hq := hq')] at hi
  obtain ⟨x, -, rfl⟩ := Finset.mem_map.mp hi
  refine (View.write_emb_of_mem _ _ (Finset.mem_univ x)).trans ?_
  have e := hg ((blk o' sz h' hr' t hq').view.emb x) ((blk o sz h hr t hq).view.emb x) (fun a => by rw [blk_emb, blk_emb]; omega)
    (by rw [← blk_set (h := h) (hr := hr) (hq := hq)]; exact View.emb_mem_set _ x) (by rw [← blk_set (h := h') (hr := hr') (hq := hq')]; exact View.emb_mem_set _ x)
  rw [e]
  rfl

end Views

end Cert.KernelIdeal.Moe

end
-- ==== Proof.Sched.lean ====
/-
The rounds of the exchange: every semaphore's duties, amounts and payloads, what each device owes at launch, and
the levels by which no wait can be circular (barrier below the first copies' landings, below the forwarded ones').
-/
module

public import proofs.«01_k».proof.Proof.Proto

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (W : Dev nD → Vec F S4x512x1024 .bf16)

/-! ## The pieces handed over -/

/-- A part of device `c`'s exchange buffer, held at its final contents. -/
def piece (c : Dev nD) (S : Finset S4x4x512x1024.Idx) (q : PosShare TreeShare) : sProp 𝕄 := cLoc c ↦[S]{q} (commOf W c : Buf (Elt F) (cLoc c))
/-- The landing place of copy `n` at device `c`, at any contents. -/
def landing (c : Dev nD) (n : Fin 16) : sProp 𝕄 := iprop(∃ f : Buf (Elt F) (cLoc c), cLoc c ↦[dSet n]{fullShare} f)
/-- What a barrier unit hands to device `c`: the landing places of its copies in that direction. -/
def barPay (c : Dev nD) (b : Bool) : sProp 𝕄 := bigSep (Finset.univ.filter fun n : Fin 16 => isR n = b) fun n => landing (dstD c n) n

omit [FloatOps F] in
/-- A block may be kept in an invariant, … -/
instance piece_storable (c : Dev nD) (S q) : BI.Storable (upEmb : UEmb _ 𝕄) (piece W c S q) := by unfold piece; infer_instance
omit [FloatOps F] in
/-- … a landing place too, … -/
instance landing_storable (c : Dev nD) (n) : BI.Storable (upEmb : UEmb _ 𝕄) (landing (F := F) c n) := by unfold landing; infer_instance
omit [FloatOps F] in
/-- … and what a barrier hands over. -/
instance barPay_storable (c : Dev nD) (b) : BI.Storable (upEmb : UEmb _ 𝕄) (barPay (F := F) c b) := by unfold barPay; infer_instance

/-! ## The schedule -/

/-- What a semaphore is for. -/
inductive Role | bar | snd (n : Fin 16) | rcv (n : Fin 16) | other

/-- The role of each semaphore, by its number. -/
def role : SemLoc sig → Role
  | .reg s => if s = barS then .bar else .other
  | .dma q => if h : q.val < 5 then .other else if h' : q.val < 21 then .snd ⟨q.val - 5, by omega⟩ else .rcv ⟨q.val - 21, by have : q.val < 37 := q.isLt; omega⟩

/-- The barrier's role, … -/
theorem role_bar : role (.reg barS) = .bar := by unfold role; exact if_pos rfl
/-- … that of a send semaphore, … -/
theorem role_snd (n : Fin 16) : role (.dma (sndS n)) = .snd n := by
  have h := n.isLt
  unfold role sndS; dsimp only
  rw [dif_neg (by omega), dif_pos (by omega)]
  congr 1; exact Fin.ext (by show 5 + n.val - 5 = n.val; omega)
/-- … and that of a receive semaphore. -/
theorem role_rcv (n : Fin 16) : role (.dma (rcvS n)) = .rcv n := by
  have h := n.isLt
  unfold role rcvS; dsimp only
  rw [dif_neg (by omega), dif_neg (by omega)]
  congr 1; exact Fin.ext (by show 21 + n.val - 21 = n.val; omega)

/-- Who pays: two neighbours onto a barrier, one copy onto a copy's semaphore. -/
def dutiesOf : Role → Finset Bool | .bar => Finset.univ | .snd _ => {false} | .rcv _ => {false} | .other => ∅
/-- How much is paid. -/
def amountOf : Role → ℕ | .snd n => amt n | .rcv n => amt n | _ => 1
/-- What a payment hands over: landing places on a barrier, a copy's source on its send semaphore, the landed block on its receive semaphore. -/
def payOf (c : Dev nD) (d : Bool) : Role → sProp 𝕄
  | .bar => barPay c d | .snd n => piece W c (sSet n) (shr n) | .rcv n => piece W c (dSet n) fullShare | .other => iprop(emp)

/-- One round on every semaphore of the exchange. -/
def ringRd : Rounds.Schedule (GSem nD τ sig) Bool 𝕄 where
  duties g r := if r = 0 ∧ g.1.2 = .tc then dutiesOf (role g.2) else ∅
  unitless _ := False
  amount g _ _ := amountOf (role g.2)
  payload g _ d := payOf W g.1.1 d (role g.2)
  amount_pos g _ _ _ := by cases role g.2 <;> first | exact Nat.one_pos | exact amt_pos _

/-- What is handed over may be kept in an invariant. -/
instance ringRd_payload_storable (g : GSem nD τ sig) (r : ℕ) (d : Bool) :
    BI.Storable (upEmb : UEmb _ 𝕄) ((ringRd W).payload g r d) := by
  show BI.Storable upEmb (payOf W g.1.1 d (role g.2))
  cases role g.2 <;> (unfold payOf; infer_instance)

section Tables
variable (c : Dev nD) (n : Fin 16)

omit [FloatOps F] in
/-- Both neighbours pay onto a barrier. -/
theorem duties_bar : (ringRd W).duties (barCell c) 0 = Finset.univ := by
  dsimp only [ringRd]; rw [if_pos ⟨rfl, rfl⟩, role_bar]; rfl
omit [FloatOps F] in
/-- One payment goes onto a send semaphore … -/
theorem duties_snd : (ringRd W).duties (sndCell c n) 0 = {false} := by
  dsimp only [ringRd]; rw [if_pos ⟨rfl, rfl⟩, role_snd]; rfl
omit [FloatOps F] in
/-- … and one onto a receive semaphore. -/
theorem duties_rcv : (ringRd W).duties (rcvCell c n) 0 = {false} := by
  dsimp only [ringRd]; rw [if_pos ⟨rfl, rfl⟩, role_rcv]; rfl
omit [FloatOps F] in
/-- There is no second round. -/
theorem duties_later (g : GSem nD τ sig) : ∀ r, 1 ≤ r → (ringRd W).duties g r = ∅ := fun r hr => if_neg fun h => by omega

omit [FloatOps F] in
/-- A neighbour pays one unit … -/
theorem amount_bar (d : Bool) : (ringRd W).amount (barCell c) 0 d = 1 := by show amountOf (role (.reg barS)) = _; rw [role_bar]; rfl
omit [FloatOps F] in
/-- … and a copy its credit, where it leaves … -/
theorem amount_snd (d : Bool) : (ringRd W).amount (sndCell c n) 0 d = amt n := by show amountOf (role (.dma (sndS n))) = _; rw [role_snd]; rfl
omit [FloatOps F] in
/-- … and where it lands. -/
theorem amount_rcv (d : Bool) : (ringRd W).amount (rcvCell c n) 0 d = amt n := by show amountOf (role (.dma (rcvS n))) = _; rw [role_rcv]; rfl

omit [FloatOps F] in
/-- A neighbour hands over its landing places … -/
theorem payload_bar (d : Bool) : (ringRd W).payload (barCell c) 0 d = barPay c d := by show payOf W c d (role (.reg barS)) = _; rw [role_bar]; rfl
omit [FloatOps F] in
/-- … a copy that has left, its source … -/
theorem payload_snd (d : Bool) : (ringRd W).payload (sndCell c n) 0 d = piece W c (sSet n) (shr n) := by show payOf W c d (role (.dma (sndS n))) = _; rw [role_snd]; rfl
omit [FloatOps F] in
/-- … and a copy that has landed, the block. -/
theorem payload_rcv (d : Bool) : (ringRd W).payload (rcvCell c n) 0 d = piece W c (dSet n) fullShare := by show payOf W c d (role (.dma (rcvS n))) = _; rw [role_rcv]; rfl

omit [FloatOps F] in
/-- A barrier expects two units … -/
theorem expect_bar : (ringRd W).expect (barCell c) 0 = 2 := by
  unfold Schedule.expect Schedule.amountOf
  rw [duties_bar, Finset.sum_congr rfl fun d _ => amount_bar W c d, Finset.sum_const, Finset.card_univ, Fintype.card_bool, smul_eq_mul]
omit [FloatOps F] in
/-- … a send semaphore its copy's credit … -/
theorem expect_snd : (ringRd W).expect (sndCell c n) 0 = amt n := by
  unfold Schedule.expect Schedule.amountOf; rw [duties_snd, Finset.sum_singleton, amount_snd]
omit [FloatOps F] in
/-- … and a receive semaphore too. -/
theorem expect_rcv : (ringRd W).expect (rcvCell c n) 0 = amt n := by
  unfold Schedule.expect Schedule.amountOf; rw [duties_rcv, Finset.sum_singleton, amount_rcv]

omit [FloatOps F] in
/-- A wait on the barrier gains both neighbours' landing places … -/
theorem rest_bar : bigSep ((ringRd W).duties (barCell c) 0 \ ∅) (fun d => (ringRd W).payload (barCell c) 0 d) = iprop(barPay c false ∗ barPay c true) := by
  rw [Finset.sdiff_empty, duties_bar, bigSep_univ_eq_bigSepL [false, true] (by decide) (by decide), bigSepL_cons_cons, bigSepL_singleton, payload_bar, payload_bar]
  rfl
omit [FloatOps F] in
/-- … one on a send semaphore the source … -/
theorem rest_snd : bigSep ((ringRd W).duties (sndCell c n) 0 \ ∅) (fun d => (ringRd W).payload (sndCell c n) 0 d) = piece W c (sSet n) (shr n) := by
  rw [Finset.sdiff_empty, duties_snd, bigSep_singleton, payload_snd]
omit [FloatOps F] in
/-- … and one on a receive semaphore the landed block. -/
theorem rest_rcv : bigSep ((ringRd W).duties (rcvCell c n) 0 \ ∅) (fun d => (ringRd W).payload (rcvCell c n) 0 d) = piece W c (dSet n) fullShare := by
  rw [Finset.sdiff_empty, duties_rcv, bigSep_singleton, payload_rcv]

end Tables

/-! ## What a device owes; the levels -/

/-- The credits still owed to the receive semaphores of the copies `l` not yet sent, the next first. -/
def owed (c : Dev nD) : List (Fin 16) → CellTallies nD τ sig Unit
  | [] => 0
  | n :: l => owed c l + tallyAt (rcvCell (dstD c n) n) () (amt n)

/-- The copies in the order the program starts them. -/
abbrev order : List (Fin 16) := [0, 1, 2, 3, 7, 6, 5, 4, 8, 9, 10, 11, 14, 15, 12, 13]

/-- What a device owes after its first signal … -/
def O₁ (c : Dev nD) : CellTallies nD τ sig Unit := owed c order + tallyAt (barCell (nxt c)) () 1
/-- … and at the start. -/
def O₀ (c : Dev nD) : CellTallies nD τ sig Unit := O₁ c + tallyAt (barCell (prv c)) () 1

/-- The semaphores of the cores have one level each. -/
def L (g : GSem nD τ sig) : Finset Unit := if g.1.2 = .tc then {()} else ∅
/-- The levels: the barrier below the whole experts' arrivals, those below the halves' arrivals. -/
def levelOf : Role → ℕ | .bar => 1 | .rcv n => if n.val < 8 then 2 else 3 | _ => 0
/-- The level of a semaphore. -/
def lv (g : GSem nD τ sig) (_ : Unit) : ℕ := levelOf (role g.2)

/-- Semaphores elsewhere have no level … -/
theorem L_of_ne (g : GSem nD τ sig) (h : g.1.2 ≠ .tc) : L g = ∅ := if_neg h
/-- … and those of a core have one. -/
theorem L_tc (c : Dev nD) (sm : SemLoc sig) : L ((c : Thread nD τ), sm) = {()} := if_pos rfl
/-- The level of a copy's arrival … -/
theorem lv_rcv (c : Dev nD) (n : Fin 16) : lv (rcvCell c n) () = if n.val < 8 then 2 else 3 := by unfold lv; rw [role_rcv]; rfl
/-- … and of a barrier. -/
theorem lv_bar (c : Dev nD) : lv (barCell c) () = 1 := by unfold lv; rw [role_bar]; rfl

/-- What is owed along a list is owed to a receive semaphore of one of its copies. -/
theorem owed_pos {c : Dev nD} {l : List (Fin 16)} {g : GSem nD τ sig} {u : Unit} (h : 0 < owed c l g u) : ∃ n ∈ l, g = rcvCell (dstD c n) n := by
  induction l with
  | nil => exact absurd h (Nat.lt_irrefl 0)
  | cons n l ih =>
    unfold owed at h
    rw [Pi.add_apply, Finsupp.add_apply, tallyAt_apply] at h
    by_cases hg : g = rcvCell (dstD c n) n
    · exact ⟨n, List.mem_cons_self, hg⟩
    · rw [if_neg (fun h' => hg h'.1)] at h
      obtain ⟨n', hn', e⟩ := ih h
      exact ⟨n', List.mem_cons_of_mem _ hn', e⟩

/-- What is owed at the start is owed to a receive semaphore or to a neighbour's barrier. -/
theorem O₀_pos {c : Dev nD} {g : GSem nD τ sig} {u : Unit} (h : 0 < O₀ c g u) :
    (∃ n ∈ order, g = rcvCell (dstD c n) n) ∨ g = barCell (nxt c) ∨ g = barCell (prv c) := by
  unfold O₀ O₁ at h
  generalize order = l at h ⊢
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  exact h1 (owed_pos (l := l) (u := u) h)

omit [FloatOps F] in
/-- A wait on a cell of the device's own at level `k` while it owes only copies landing above. -/
theorem mayWait_owed (c : Dev nD) (sm : SemLoc sig) (l : List (Fin 16)) (k : ℕ) (hk : levelOf (role sm) ≤ k)
    (hl : ∀ n ∈ l, k < (if n.val < 8 then 2 else 3)) :
    (levAts L lv : sProp 𝕄) ⊢ MayWait (c : Thread nD τ) sm () (owed c l) :=
  MayOwe.of_cut (L := L) (lev := lv) k (fun p hp => by rw [Finset.mem_singleton.mp hp, L_tc]; exact Finset.mem_singleton_self _)
    (fun g u hg => by obtain ⟨n, -, rfl⟩ := owed_pos hg; exact Finset.mem_singleton_self _)
    (fun p hp => by rw [Finset.mem_singleton.mp hp]; exact hk)
    (fun g u hg => by obtain ⟨n, hn, rfl⟩ := owed_pos hg; rw [lv_rcv]; exact hl n hn)

omit [FloatOps F] in
/-- A staging copy may be waited for at the start and at the end. -/
theorem mayWait_stage (c : Dev nD) (q : DmaSem sig) (hq : levelOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, -, rfl⟩ | rfl | rfl <;> exact Finset.mem_singleton_self _)
      (fun p hp => by rw [Finset.mem_singleton.mp hp]; exact le_of_eq hq)
      (fun g u hg => by
        rcases O₀_pos hg with ⟨n, -, rfl⟩ | rfl | rfl
        · rw [lv_rcv]; split <;> omega
        · rw [lv_bar]; exact Nat.one_pos
        · rw [lv_bar]; exact Nat.one_pos)
  · rw [MayWait_zero]; iintro -; iempintro

end Cert.KernelIdeal.Moe

end
-- ==== Proof.Rules.lean ====
/-
One rule per step of the exchange on the device's whole protocol state: starting the next copy, waiting for a copy to
land, waiting for a started copy to let go of its source.
-/
module

public import proofs.«01_k».proof.Proof.Sched

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (W : Dev nD → Vec F S4x512x1024 .bf16)

/-- No variants are chosen. -/
abbrev 𝒱₀ : Variants := Variants.none

/-! ## Assertions along a list of copies -/

/-- `Φ` of every copy of the list. -/
def along (Φ : Fin 16 → sProp 𝕄) : List (Fin 16) → sProp 𝕄
  | [] => iprop(emp)
  | n :: l => iprop(Φ n ∗ along Φ l)

omit [FloatOps F] in
/-- An assertion along a list and one more at its end. -/
theorem along_snoc (Φ : Fin 16 → sProp 𝕄) (l : List (Fin 16)) (n : Fin 16) : iprop(along Φ l ∗ Φ n) ⊢ along Φ (l ++ [n]) := by
  induction l with
  | nil =>
    show iprop(emp ∗ Φ n) ⊢ iprop(Φ n ∗ emp)
    iintro ⟨-, H⟩
    isplitl [H]; · iexact H
    iempintro
  | cons m l ih =>
    show iprop((Φ m ∗ along Φ l) ∗ Φ n) ⊢ iprop(Φ m ∗ along Φ (l ++ [n]))
    iintro ⟨⟨H, Hl⟩, Hn⟩
    isplitl [H]; · iexact H
    iapply ih
    isplitl [Hl] <;> iassumption

omit [FloatOps F] in
/-- An assertion over the set of a list's copies is one along the list. -/
theorem bigSep_toFinset (Φ : Fin 16 → sProp 𝕄) (l : List (Fin 16)) (h : l.Nodup) : bigSep l.toFinset Φ = along Φ l := by
  induction l with
  | nil => rw [List.toFinset_nil, bigSep_empty]; rfl
  | cons n l ih =>
    rw [List.nodup_cons] at h
    rw [List.toFinset_cons, bigSep_insert (by rw [List.mem_toFinset]; exact h.1), ih h.2]; rfl

omit [FloatOps F] in
/-- Over all the copies, or a part of them, in any order. -/
theorem bigSep_along (Φ : Fin 16 → sProp 𝕄) {S : Finset (Fin 16)} (l : List (Fin 16)) (h : l.Nodup) (hS : S = l.toFinset) :
    bigSep S Φ = along Φ l := by rw [hS, bigSep_toFinset Φ l h]

/-! ## The protocol state of a device -/

/-- A device's cells, as the launch numbers them: the barrier, the send semaphores, the receive semaphores. -/
def csem (k : Fin 33) : SemLoc sig := if k.val = 0 then .reg barS else .dma ⟨4 + k.val, by have := k.isLt; show 4 + k.val < 37; omega⟩
/-- The semaphore of a device under its number. -/
abbrev kcell (ck : Dev nD × Fin 33) : GSem nD τ sig := ((ck.1 : Thread nD τ), csem ck.2)
/-- The number of copy `n`'s send semaphore … -/
def kS (n : Fin 16) : Fin 33 := ⟨1 + n.val, by have := n.isLt; omega⟩
/-- … and of its receive semaphore. -/
def kR (n : Fin 16) : Fin 33 := ⟨17 + n.val, by have := n.isLt; omega⟩
/-- Number zero is the barrier. -/
theorem kcell_bar (c : Dev nD) : kcell (c, 0) = barCell c := rfl
/-- The numbers of the send semaphores name them … -/
theorem csem_kS (n : Fin 16) : csem (kS n) = .dma (sndS n) := by
  unfold csem kS sndS; dsimp only; rw [if_neg (by omega)]; congr 1; exact Fin.ext (by show 4 + (1 + n.val) = 5 + n.val; omega)
/-- … and so do those of the receive semaphores … -/
theorem csem_kR (n : Fin 16) : csem (kR n) = .dma (rcvS n) := by
  unfold csem kR rcvS; dsimp only; rw [if_neg (by omega)]; congr 1; exact Fin.ext (by show 4 + (17 + n.val) = 21 + n.val; omega)
/-- … on every device, for sending … -/
theorem kcell_kS (c : Dev nD) (n : Fin 16) : kcell (c, kS n) = sndCell c n := by unfold kcell; dsimp only; rw [csem_kS]
/-- … and for receiving. -/
theorem kcell_kR (c : Dev nD) (n : Fin 16) : kcell (c, kR n) = rcvCell c n := by unfold kcell; dsimp only; rw [csem_kR]

/-- Every cell of the exchange runs the schedule, and its first round has begun; the levels are as fixed. -/
def ctx (K : Dev nD × Fin 33 → ℕ) : sProp 𝕄 :=
  iprop((bigSep Finset.univ fun ck : Dev nD × Fin 33 => cellInv ER (ringRd W) (K ck) (kcell ck))
    ∗ (bigSep Finset.univ fun ck : Dev nD × Fin 33 => reached ER (kcell ck) 0) ∗ levAts L lv)

/-- What is known of the exchange can be used again and again. -/
instance ctx_persistent (K : Dev nD × Fin 33 → ℕ) : BI.Persistent (ctx W K) := by unfold ctx; infer_instance

omit [FloatOps F] in
/-- From what is known: a semaphore runs the schedule, … -/
theorem ctx_inv (K : Dev nD × Fin 33 → ℕ) (ck : Dev nD × Fin 33) : ctx W K ⊢ cellInv ER (ringRd W) (K ck) (kcell ck) := by
  exact (sep_mono_left (bigSep_elim (Φ := fun ck : Dev nD × Fin 33 => (cellInv ER (ringRd W) (K ck) (kcell ck) : sProp 𝕄)) (Finset.mem_univ ck))).trans sep_elim_left
omit [FloatOps F] in
/-- … its first round has begun, … -/
theorem ctx_reached (K : Dev nD × Fin 33 → ℕ) (ck : Dev nD × Fin 33) : ctx W K ⊢ reached ER (kcell ck) 0 := by
  exact sep_elim_right.trans ((sep_mono_left (bigSep_elim (Φ := fun ck : Dev nD × Fin 33 => (reached ER (kcell ck) 0 : sProp 𝕄)) (Finset.mem_univ ck))).trans sep_elim_left)
omit [FloatOps F] in
/-- … and the levels are fixed. -/
theorem ctx_lev (K : Dev nD × Fin 33 → ℕ) : ctx W K ⊢ levAts L lv := by unfold ctx; iintro ⟨-, -, H⟩; iexact H
omit [FloatOps F] in
/-- The send semaphore of a copy runs the schedule … -/
theorem ctx_invS (K : Dev nD × Fin 33 → ℕ) (c : Dev nD) (n : Fin 16) : ctx W K ⊢ cellInv ER (ringRd W) (K (c, kS n)) (sndCell c n) :=
  (ctx_inv W K (c, kS n)).trans (Entails.of_eq (by rw [kcell_kS]))
omit [FloatOps F] in
/-- … and its receive semaphore. -/
theorem ctx_invR (K : Dev nD × Fin 33 → ℕ) (c : Dev nD) (n : Fin 16) : ctx W K ⊢ cellInv ER (ringRd W) (K (c, kR n)) (rcvCell c n) :=
  (ctx_inv W K (c, kR n)).trans (Entails.of_eq (by rw [kcell_kR]))
omit [FloatOps F] in
/-- The first round of a send semaphore has begun … -/
theorem ctx_reachedS (K : Dev nD × Fin 33 → ℕ) (c : Dev nD) (n : Fin 16) : ctx W K ⊢ reached ER (sndCell c n) 0 :=
  (ctx_reached W K (c, kS n)).trans (Entails.of_eq (by rw [kcell_kS]))
omit [FloatOps F] in
/-- … and that of a receive semaphore. -/
theorem ctx_reachedR (K : Dev nD × Fin 33 → ℕ) (c : Dev nD) (n : Fin 16) : ctx W K ⊢ reached ER (rcvCell c n) 0 :=
  (ctx_reached W K (c, kR n)).trans (Entails.of_eq (by rw [kcell_kR]))

/-- What device `c` owes, whatever it has waited on. -/
def owe (c : Dev nD) (O : CellTallies nD τ sig Unit) : sProp 𝕄 := iprop(∃ V : Waits sig Unit, owes (c : Thread nD τ) O V)

/-- Copy `n` not yet started: its landing place and the right to pay its two semaphores. -/
def ready (c : Dev nD) (n : Fin 16) : sProp 𝕄 :=
  iprop(landing (dstD c n) n ∗ dutyTok ER (sndCell c n) 0 false ∗ dutyTok ER (rcvCell (dstD c n) n) 0 false)
/-- Copy `n`'s send semaphore before the wait; the credit comes with the start. -/
def flying (c : Dev nD) (n : Fin 16) : sProp 𝕄 := cred (tallyAt (sndCell c n) () (amt n))
/-- The position on copy `n`'s send semaphore before the wait. -/
def atS (c : Dev nD) (n : Fin 16) : sProp 𝕄 := atPos ER (sndCell c n) 0 ∅ 0
/-- The copy `n` arriving, not yet waited for. -/
def coming (c : Dev nD) (n : Fin 16) : sProp 𝕄 := iprop(cred (tallyAt (rcvCell c n) () (amt n)) ∗ atPos ER (rcvCell c n) 0 ∅ 0)
/-- Copy `n` done with: its send semaphore at zero, its source back. -/
def zeroS (c : Dev nD) (n : Fin 16) : sProp 𝕄 := iprop(semVal (sndCell c n) 0 ∗ piece W c (sSet n) (shr n))
/-- Copy `n`'s receive semaphore at zero. -/
def zeroR (c : Dev nD) (n : Fin 16) : sProp 𝕄 := semVal (rcvCell c n) 0

/-- A device amid the exchange: copies `l` to be started, `f` started and not waited for, `s` waited for; arrivals `r` to be
    waited for, `z` waited for. -/
def st (c : Dev nD) (l f s r z : List (Fin 16)) : sProp 𝕄 :=
  iprop(owe c (owed c l) ∗ along (ready c) l ∗ along (flying c) f ∗ along (atS c) (f ++ l) ∗ along (zeroS W c) s ∗ along (coming c) r ∗ along (zeroR c) z)

section Steps
variable (K : Dev nD × Fin 33 → ℕ) (c : Dev nD)

/-- The landing place of copy `n`, written with its source, holds what it is to hold. -/
theorem landed_eq (n : Fin 16) {sz : Fin 4 → ℕ} (hsz : sz = bsz n) {h : ∀ a, sOff n a + sz a ≤ S4x4x512x1024.size a} {hr} {h' : ∀ a, dOff n a + sz a ≤ S4x4x512x1024.size a} {hr'} {t : Shape} {hq hq'}
    (fd : Vec F S4x4x512x1024 .bf16) :
    ∀ i ∈ dSet n, ((blk (dOff n) sz h' hr' t hq').view.write (Elt F) fd ((blk (sOff n) sz h hr t hq).view.read (Elt F) (commOf W c : Vec F S4x4x512x1024 .bf16)) Finset.univ : Vec F S4x4x512x1024 .bf16) i
      = commOf W (dstD c n) i := by
  subst hsz
  refine blk_landing (h := h) (hr := hr) (hq := hq) (h' := h') (hr' := hr') (hq' := hq') fd _ _ fun i j hij hj hi => ?_
  have hi := mem_box4.mp hi; have hj := mem_box4.mp hj
  have e0 : (i 0).val = dSlot n := by
    have := hi.1; have hs : bsz n 0 = 1 := by unfold bsz; split <;> rfl
    rw [hs] at this; have h1 : dOff n 0 = dSlot n := rfl
    omega
  have f0 : (j 0).val = sSlot n := by
    have := hj.1; have hs : bsz n 0 = 1 := by unfold bsz; split <;> rfl
    rw [hs] at this; have h1 : sOff n 0 = sSlot n := rfl
    omega
  have k1 : i 1 = j 1 := Fin.ext (by have := hij 1; have h1 : dOff n 1 = sOff n 1 := rfl; omega)
  have k2 : i 2 = j 2 := Fin.ext (by have := hij 2; have h1 : dOff n 2 = sOff n 2 := rfl; omega)
  have k3 : i 3 = j 3 := Fin.ext (by have := hij 3; have h1 : dOff n 3 = sOff n 3 := rfl; omega)
  unfold commOf
  rw [e0, f0, slotDev_to, k1, k2, k3]

/-- Starting the next copy. -/
theorem wp_start (n : Fin 16) {l f s r z : List (Fin 16)} {d' : Dev nD} (hd : d' = dstD c n) {qs qr : DmaSem sig} (hqs : qs = sndS n) (hqr : qr = rcvS n)
    {o o' sz : Fin 4 → ℕ} {h hr t hq h' hr' hq'} (ho : o = sOff n) (ho' : o' = dOff n) (hsz : sz = bsz n)
    (hN : (blk o' sz h' hr' t hq').view.dmaCredit = amt n)
    {hsc : (blk o' sz h' hr' t hq' : Memref sig (Dev.tc d' : Thread nD τ).2.kind .vmem t .bf16).view.ref.isScScratch = false}
    {hsrc : (blk o sz h hr t hq).view.WordExact} {hdst : (blk o' sz h' hr' t hq').view.WordExact}
    {hsem : DmaTarget.Typed .vmem (.dma qr) (.remote (Dev.tc d' : Thread nD τ) (blk o' sz h' hr' t hq') (.dma qs) hsc)}
    {α : Type} {Q : α → sProp 𝕄} {k : PUnit → Prog (TpuEff nD τ sig (Elt F) Λ₀ .tc) α} :
    iprop(ctx W K ∗ piece W c (sSet n) (shr n) ∗ st W c (n :: l) f s r z)
      ⊢ iprop((st W c l (f ++ [n]) s r z -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blk o sz h hr t hq) (.remote (Dev.tc d' : Thread nD τ) (blk o' sz h' hr' t hq') (.dma qs) hsc) (.dma qr) hsrc hdst hsem) k) Q) := by
  subst hd hqs hqr ho ho'
  iintro ⟨#HC, Hsrc, Hst⟩ Hk
  unfold st
  icases Hst with ⟨HO, Hrd, Hfl, Hat, Hs, Hr, Hz⟩
  unfold owe
  icases HO with ⟨%V, HO⟩
  simp only [along]
  icases Hrd with ⟨Hn, Hrd⟩
  unfold ready landing
  icases Hn with ⟨⟨%fd, Hl⟩, Ht1, Ht2⟩
  unfold piece
  have e1 : (blk (sOff n) sz h hr t hq).view.set = sSet n := hsz ▸ blk_set
  have e2 : (blk (dOff n) sz h' hr' t hq').view.set = dSet n := hsz ▸ blk_set
  iapply (Rounds.wp_send_pointsTo 𝒱₀ ER (ringRd W) (c : Thread nD τ) none (c' := (dstD c n : Thread nD τ)) (sS := .dma (sndS n)) (sem := .dma (rcvS n)) (κ₁ := K (c, kS n)) (κ₂ := K (dstD c n, kR n))
    (r₁ := 0) (r₂ := 0) (d₁ := false) (d₂ := false) (fs := (commOf W c : Buf (Elt F) (cLoc c))) (fd := fd) (q := shr n)
    (src := blk (sOff n) sz h hr t hq) (dst := blk (dOff n) sz h' hr' t hq')
    (by rw [duties_snd]; exact Finset.mem_singleton_self _) (by rw [duties_rcv]; exact Finset.mem_singleton_self _)
    () () (amt n) hN (amount_snd W c n false) (amount_rcv W (dstD c n) n false) (owed c l) rfl (W := V)
    (by rw [payload_snd]; unfold piece; rw [e1])
    (by rw [payload_rcv]; unfold piece; rw [e2]; exact Entails.of_eq (pointsTo_congr (landed_eq W c n hsz fd))))
    $$ [Hsrc Hl HO Ht1 Ht2]
  · isplitr; · iapply (ctx_invS W K c n); iexact HC
    isplitr; · iapply (ctx_invR W K (dstD c n) n); iexact HC
    isplitl [Hsrc]; · rw [e1]; iexact Hsrc
    isplitl [Hl]; · rw [e2]; iexact Hl
    isplitl [HO]; · iexact HO
    isplitl [Ht1]; · iexact Ht1
    isplitr; · iapply (ctx_reachedS W K c n); iexact HC
    isplitl [Ht2]; · iexact Ht2
    iapply (ctx_reachedR W K (dstD c n) n); iexact HC
  iintro ⟨Hc, HO⟩
  iapply Hk
  isplitl [HO]; · iexists V; iexact HO
  isplitl [Hrd]; · iexact Hrd
  isplitl [Hfl Hc]
  · iapply (along_snoc (flying c) f n)
    isplitl [Hfl]; · iexact Hfl
    unfold flying; iexact Hc
  isplitl [Hat]
  · rw [List.append_assoc]; iexact Hat
  isplitl [Hs]; · iexact Hs
  isplitl [Hr] <;> iassumption

/-- Waiting for arrival `n`: its block. -/
theorem wp_arrive (n : Fin 16) {l f s r z : List (Fin 16)} {q : DmaSem sig} (hq : q = rcvS n)
    (hl : ∀ m ∈ l, (if n.val < 8 then 2 else 3) < (if m.val < 8 then 2 else 3))
    {sp' : Space} {s₂ : Shape} {e₂ : EltTy} {src : Memref sig .tc sp' s₂ e₂} {o sz : Fin 4 → ℕ} {h1 hr1 t1 hq1} (ho : o = dOff n) (hsz : sz = bsz n)
    (hN : (blk o sz h1 hr1 t1 hq1).view.dmaCredit = amt n) {hsrc : src.view.WordExact} {hdst : (blk o sz h1 hr1 t1 hq1).view.WordExact}
    {α : Type} {Q : α → sProp 𝕄} {k : PUnit → Prog (TpuEff nD τ sig (Elt F) Λ₀ .tc) α} :
    iprop(ctx W K ∗ st W c l f s (n :: r) z)
      ⊢ iprop(((piece W c (dSet n) fullShare ∗ st W c l f s r (n :: z)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src (blk o sz h1 hr1 t1 hq1) hsrc hdst) k) Q) := by
  subst hq
  iintro ⟨#HC, Hst⟩ Hk
  unfold st
  icases Hst with ⟨HO, Hrd, Hfl, Hat, Hs, Hr, Hz⟩
  unfold owe
  icases HO with ⟨%V, HO⟩
  simp only [along]
  icases Hr with ⟨Hn, Hr⟩
  unfold coming
  icases Hn with ⟨Hc, Hp⟩
  iapply (Rounds.wp_wait_rest_token 𝒱₀ ER (ringRd W) (c : Thread nD τ) none (κ := K (c, kR n))
      (wpE_waitDma2_eq 𝒱₀ (c : Thread nD τ) none Set.univ) (Set.mem_univ _) () (O := owed c l) (W := V) (R := 0) (m := 0) (T := ∅)
      (by rw [Nat.zero_add, expect_rcv, hN])) $$ [Hc HO Hp]
  · isplitr; · iapply (ctx_invR W K c n); iexact HC
    isplitl [Hc]; · rw [hN]; iexact Hc
    isplitl [HO]; · iexact HO
    isplitr; · iapply (mayWait_owed c (.dma (rcvS n)) l (if n.val < 8 then 2 else 3) (by rw [role_rcv]; exact le_refl _) hl); iapply (ctx_lev W K); iexact HC
    iexact Hp
  iintro ⟨HO, Hp, -, Hpay⟩
  ihave Hpc := (Entails.of_eq (rest_rcv W c n)) $$ Hpay
  imod (Rounds.cell_close ER (ringRd W) (Set.mem_univ (K (c, kR n))) (fun h => h) (R := 0 + 1) (duties_later W (rcvCell c n))) $$ [Hp] with Hzn
  · isplitr; · iapply (ctx_invR W K c n); iexact HC
    iexact Hp
  iapply Hk
  isplitl [Hpc]; · iexact Hpc
  isplitl [HO]; · iexists _; iexact HO
  isplitl [Hrd]; · iexact Hrd
  isplitl [Hfl]; · iexact Hfl
  isplitl [Hat]; · iexact Hat
  isplitl [Hs]; · iexact Hs
  isplitl [Hr]; · iexact Hr
  isplitl [Hzn]; · unfold zeroR; iexact Hzn
  iexact Hz

/-- Waiting for started copy `n` to let go of its source, once everything has been started. -/
theorem wp_letgo (n : Fin 16) {f s r z : List (Fin 16)} {q : DmaSem sig} (hq : q = sndS n)
    {sp' : Space} {s₂ : Shape} {e₂ : EltTy} {src : Memref sig .tc sp' s₂ e₂} {o sz : Fin 4 → ℕ} {h1 hr1 t1 hq1} (ho : o = sOff n) (hsz : sz = bsz n)
    (hN : (blk o sz h1 hr1 t1 hq1).view.dmaCredit = amt n) {hsrc : src.view.WordExact} {hdst : (blk o sz h1 hr1 t1 hq1).view.WordExact}
    {α : Type} {Q : α → sProp 𝕄} {k : PUnit → Prog (TpuEff nD τ sig (Elt F) Λ₀ .tc) α} :
    iprop(ctx W K ∗ st W c [] (n :: f) s r z)
      ⊢ iprop((st W c [] f (n :: s) r z -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src (blk o sz h1 hr1 t1 hq1) hsrc hdst) k) Q) := by
  subst hq
  iintro ⟨#HC, Hst⟩ Hk
  unfold st
  icases Hst with ⟨HO, Hrd, Hfl, Hat, Hs, Hr, Hz⟩
  unfold owe
  icases HO with ⟨%V, HO⟩
  simp only [List.cons_append, along]
  icases Hfl with ⟨Hc, Hfl⟩
  icases Hat with ⟨Hp, Hat⟩
  unfold flying atS
  iapply (Rounds.wp_wait_rest_token 𝒱₀ ER (ringRd W) (c : Thread nD τ) none (κ := K (c, kS n))
      (wpE_waitDma2_eq 𝒱₀ (c : Thread nD τ) none Set.univ) (Set.mem_univ _) () (O := owed c []) (W := V) (R := 0) (m := 0) (T := ∅)
      (by rw [Nat.zero_add, expect_snd, hN])) $$ [Hc HO Hp]
  · isplitr; · iapply (ctx_invS W K c n); iexact HC
    isplitl [Hc]; · rw [hN]; iexact Hc
    isplitl [HO]; · iexact HO
    isplitr; · iapply (mayWait_owed c (.dma (sndS n)) [] 0 (by rw [role_snd]; exact le_refl _) (fun _ hm => absurd hm List.not_mem_nil)); iapply (ctx_lev W K); iexact HC
    iexact Hp
  iintro ⟨HO, Hp, -, Hpay⟩
  ihave Hpc := (Entails.of_eq (rest_snd W c n)) $$ Hpay
  imod (Rounds.cell_close ER (ringRd W) (Set.mem_univ (K (c, kS n))) (fun h => h) (R := 0 + 1) (duties_later W (sndCell c n))) $$ [Hp] with Hzn
  · isplitr; · iapply (ctx_invS W K c n); iexact HC
    iexact Hp
  iapply Hk
  isplitl [HO]; · iexists _; iexact HO
  isplitl [Hrd]; · iexact Hrd
  isplitl [Hfl]; · iexact Hfl
  isplitl [Hat]; · iexact Hat
  isplitl [Hzn Hs Hpc]
  · isplitl [Hzn Hpc]
    · unfold zeroS
      isplitl [Hzn] <;> iassumption
    iexact Hs
  isplitl [Hr] <;> iassumption

end Steps

end Cert.KernelIdeal.Moe

end
-- ==== Proof.Pieces.lean ====
/-
The exchange buffer cut into its pieces and put together again: slot 0 shared out to the copies that read it, an arrived
block shared between the copies that forward it and the loads, the landing places handed over at the barrier.
-/
module

public import proofs.«01_k».proof.Proof.Rules

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (W : Dev nD → Vec F S4x512x1024 .bf16) (c : Dev nD)

/-! ## Cutting a block along one axis -/

/-- The block at `o` of size `sz` is, along axis `a`, the block at `o₁` of size `sz₁` followed by the one at `o₂` of size `sz₂`. -/
def Cut (a : Fin 4) (o sz o₁ sz₁ o₂ sz₂ : Fin 4 → ℕ) : Prop :=
  (∀ b, b ≠ a → o₁ b = o b ∧ o₂ b = o b ∧ sz₁ b = sz b ∧ sz₂ b = sz b) ∧ o₁ a = o a ∧ o₂ a = o a + sz₁ a ∧ sz a = sz₁ a + sz₂ a

/-- Whether a block is so cut can be decided. -/
instance (a o sz o₁ sz₁ o₂ sz₂) : Decidable (Cut a o sz o₁ sz₁ o₂ sz₂) := by unfold Cut; infer_instance

/-- A cut block is its two parts … -/
theorem Cut.union {a : Fin 4} {o sz o₁ sz₁ o₂ sz₂ : Fin 4 → ℕ} (h : Cut a o sz o₁ sz₁ o₂ sz₂) : box o sz = box o₁ sz₁ ∪ box o₂ sz₂ := by
  obtain ⟨hb, h1, h2, h3⟩ := h
  ext i
  rw [Finset.mem_union, mem_box, mem_box, mem_box]
  constructor
  · intro hi
    by_cases hlt : (i a).val < o a + sz₁ a
    · refine .inl fun b => ?_
      by_cases e : b = a
      · subst e; have := hi b; omega
      · have := hi b; have := hb b e; omega
    · refine .inr fun b => ?_
      by_cases e : b = a
      · subst e; have := hi b; omega
      · have := hi b; have := hb b e; omega
  · rintro (hi | hi) b <;>
    · by_cases e : b = a
      · subst e; have := hi b; omega
      · have := hi b; have := hb b e; omega

/-- … which do not meet. -/
theorem Cut.disjoint {a : Fin 4} {o sz o₁ sz₁ o₂ sz₂ : Fin 4 → ℕ} (h : Cut a o sz o₁ sz₁ o₂ sz₂) : Disjoint (box o₁ sz₁) (box o₂ sz₂) := by
  obtain ⟨-, h1, h2, -⟩ := h
  rw [Finset.disjoint_left]
  intro i hi hj
  have := mem_box.mp hi a; have := mem_box.mp hj a; omega

omit [FloatOps F] in
/-- To hold a cut block is to hold both parts. -/
theorem piece_cut {a : Fin 4} {o sz o₁ sz₁ o₂ sz₂ : Fin 4 → ℕ} (h : Cut a o sz o₁ sz₁ o₂ sz₂) (q : PosShare TreeShare) :
    piece W c (box o sz) q ⊣⊢ iprop(piece W c (box o₁ sz₁) q ∗ piece W c (box o₂ sz₂) q) := by
  unfold piece; rw [h.union]; exact pointsTo_union h.disjoint

omit [FloatOps F] in
/-- To hold a block is to hold both halves of the share. -/
theorem piece_share (S : Finset S4x4x512x1024.Idx) (q : PosShare TreeShare) : piece W c S q ⊣⊢ iprop(piece W c S q.left ∗ piece W c S q.right) := by
  unfold piece; exact pointsTo_share (PosShare.mem_left_op_right q)

/-- The source a copy takes with it. -/
abbrev src (n : Fin 16) : sProp 𝕄 := piece W c (sSet n) (shr n)

/-! ## Slot 0 -/

/-- Slot 0, all four rows of it, at one share. -/
theorem slot0_cut (q : PosShare TreeShare) : piece W c slot0 q ⊣⊢
    iprop(((piece W c (sSet 0) q ∗ piece W c (sSet 1) q) ∗ piece W c (sSet 2) q) ∗ piece W c (sSet 3) q) :=
  (piece_cut W c (a := 1) (o₁ := ![0, 0, 0, 0]) (sz₁ := ![1, 3, 512, 1024]) (o₂ := sOff 3) (sz₂ := bsz 3) (by decide) q).trans
    (sep_congr ((piece_cut W c (a := 1) (o₁ := ![0, 0, 0, 0]) (sz₁ := ![1, 2, 512, 1024]) (o₂ := sOff 2) (sz₂ := bsz 2) (by decide) q).trans
      (sep_congr (piece_cut W c (a := 1) (o₁ := sOff 0) (sz₁ := bsz 0) (o₂ := sOff 1) (sz₂ := bsz 1) (by decide) q) .rfl)) .rfl)

/-- Slot 0 shared out: a share of each row to the copy going right, one to the copy going left, one kept for the loads. -/
theorem slot0_share : piece W c slot0 fullShare ⊢
    iprop((src W c 0 ∗ src W c 1 ∗ src W c 2 ∗ src W c 3) ∗ (src W c 7 ∗ src W c 6 ∗ src W c 5 ∗ src W c 4) ∗ piece W c slot0 fullShare.right.right) := by
  iintro H
  icases (piece_share W c slot0 fullShare).1 $$ H with ⟨HA, HB⟩
  icases (piece_share W c slot0 fullShare.right).1 $$ HB with ⟨HB, HC⟩
  icases (slot0_cut W c _).1 $$ HA with ⟨⟨⟨H0, H1⟩, H2⟩, H3⟩
  icases (slot0_cut W c _).1 $$ HB with ⟨⟨⟨H4, H5⟩, H6⟩, H7⟩
  isplitl [H0 H1 H2 H3]
  · isplitl [H0]; · iexact H0
    isplitl [H1]; · iexact H1
    isplitl [H2]; · iexact H2
    iexact H3
  isplitr [HC]
  · isplitl [H7]; · iexact H7
    isplitl [H6]; · iexact H6
    isplitl [H5]; · iexact H5
    iexact H4
  iexact HC

/-- The shares of the device's own experts, once all copies of them are done, are the whole again. -/
theorem slot0_unshare :
    iprop((src W c 0 ∗ src W c 1 ∗ src W c 2 ∗ src W c 3) ∗ (src W c 7 ∗ src W c 6 ∗ src W c 5 ∗ src W c 4) ∗ piece W c slot0 fullShare.right.right)
      ⊢ piece W c slot0 fullShare := by
  iintro ⟨⟨H0, H1, H2, H3⟩, ⟨H7, H6, H5, H4⟩, HC⟩
  iapply (piece_share W c slot0 fullShare).2
  isplitl [H0 H1 H2 H3]
  · iapply (slot0_cut W c _).2
    isplitr [H3]
    · isplitr [H2]
      · isplitl [H0]; · iexact H0
        iexact H1
      iexact H2
    iexact H3
  iapply (piece_share W c slot0 fullShare.right).2
  isplitr [HC]
  · iapply (slot0_cut W c _).2
    isplitr [H7]
    · isplitr [H6]
      · isplitl [H4]; · iexact H4
        iexact H5
      iexact H6
    iexact H7
  iexact HC

/-! ## An arrived block that is forwarded -/

/-- Copy `n` brings the block the copies `m` and `m'` forward, in halves. -/
def Feeds (n m m' : Fin 16) : Prop := Cut 2 (dOff n) (bsz n) (sOff m) (bsz m) (sOff m') (bsz m') ∧ ¬ m.val < 8 ∧ ¬ m'.val < 8
/-- Whether a copy feeds two can be decided. -/
instance (n m m') : Decidable (Feeds n m m') := by unfold Feeds; infer_instance

omit [FloatOps F] in
/-- An arrived block, held in full, is the sources of the two copies it feeds and a share to read it with. -/
theorem feed {n m m' : Fin 16} (h : Feeds n m m') :
    piece W c (dSet n) fullShare ⊣⊢ iprop((src W c m ∗ src W c m') ∗ piece W c (dSet n) fullShare.right) := by
  have e : ∀ k : Fin 16, ¬ k.val < 8 → shr k = fullShare.left := fun k hk => by unfold shr; rw [if_neg (by omega), if_neg hk]
  unfold src; rw [e m h.2.1, e m' h.2.2]
  exact (piece_share W c (dSet n) fullShare).trans (sep_congr (piece_cut W c h.1 _) .rfl)

/-! ## The whole buffer -/

/-- Which landing place an element of slots 1 to 3 belongs to. -/
def place (i : S4x4x512x1024.Idx) : ℕ :=
  if (i 0).val = 1 then (i 1).val else if (i 0).val = 2 then 4 + (i 1).val else 8 + 2 * (i 1).val + (i 2).val / 256

/-- An element lies in a copy's landing place if its place says so. -/
theorem mem_dSet (i : S4x4x512x1024.Idx) (n : Fin 16) : i ∈ dSet n ↔ (i 0).val ≠ 0 ∧ place i = n.val := by
  have h0 : (i 0).val < 4 := (i 0).isLt
  have h1 : (i 1).val < 4 := (i 1).isLt
  have h2 : (i 2).val < 512 := (i 2).isLt
  have h3 : (i 3).val < 1024 := (i 3).isLt
  rw [mem_box4]; unfold place
  fin_cases n <;> simp [dOff, bsz, dSlot, oRow, oHalf] <;> split_ifs <;> omega

/-- An element lies in slot 0 if its first index is zero. -/
theorem mem_slot0 (i : S4x4x512x1024.Idx) : i ∈ slot0 ↔ (i 0).val = 0 := by
  have h1 : (i 1).val < 4 := (i 1).isLt
  have h2 : (i 2).val < 512 := (i 2).isLt
  have h3 : (i 3).val < 1024 := (i 3).isLt
  rw [mem_box4]; simp; omega

/-- No two landing places meet … -/
theorem places_disjoint : ∀ n ∈ (Finset.univ : Finset (Fin 16)), ∀ n' ∈ (Finset.univ : Finset (Fin 16)), n ≠ n' → Disjoint (dSet n) (dSet n') := by
  intro n _ n' _ hne
  rw [Finset.disjoint_left]
  intro i hi hj
  exact hne (Fin.ext (((mem_dSet i n).mp hi).2.symm.trans ((mem_dSet i n').mp hj).2))

/-- … nor does one meet slot 0 … -/
theorem slot0_disjoint : Disjoint slot0 (Finset.univ.biUnion dSet) := by
  rw [Finset.disjoint_left]
  intro i hi hj
  obtain ⟨n, -, hn⟩ := Finset.mem_biUnion.mp hj
  exact ((mem_dSet i n).mp hn).1 ((mem_slot0 i).mp hi)

/-- … and together they are the whole buffer. -/
theorem slots_union : (Finset.univ : Finset S4x4x512x1024.Idx) = slot0 ∪ Finset.univ.biUnion dSet := by
  symm; rw [Finset.eq_univ_iff_forall]
  intro i
  rw [Finset.mem_union, mem_slot0]
  by_cases h : (i 0).val = 0
  · exact .inl h
  · refine .inr (Finset.mem_biUnion.mpr ⟨⟨place i, ?_⟩, Finset.mem_univ _, (mem_dSet i _).mpr ⟨h, rfl⟩⟩)
    have h1 : (i 1).val < 4 := (i 1).isLt
    have h2 : (i 2).val < 512 := (i 2).isLt
    unfold place; split_ifs <;> omega

omit [FloatOps F] in
/-- The whole buffer, cut into slot 0 and the landing places. -/
theorem whole_cut (f : Buf (Elt F) (cLoc c)) :
    (cLoc c ↦{fullShare} f : sProp 𝕄) ⊣⊢ iprop((cLoc c ↦[slot0]{fullShare} f) ∗ bigSep Finset.univ fun n => cLoc c ↦[dSet n]{fullShare} f) := by
  have h : (cLoc c ↦[slot0 ∪ Finset.univ.biUnion dSet]{fullShare} f : sProp 𝕄)
      ⊣⊢ iprop((cLoc c ↦[slot0]{fullShare} f) ∗ cLoc c ↦[Finset.univ.biUnion dSet]{fullShare} f) := pointsTo_union slot0_disjoint
  rw [pointsTo_biUnion _ _ places_disjoint, ← slots_union] at h
  exact h

/-- Slot 0 and everything that landed, put together. -/
theorem whole_join :
    iprop(piece W c slot0 fullShare ∗ bigSep Finset.univ fun n => piece W c (dSet n) fullShare) ⊢ (cLoc c ↦{fullShare} (commOf W c : Buf (Elt F) (cLoc c)) : sProp 𝕄) :=
  (whole_cut c _).2

/-- The buffer before the exchange: slot 0, and the landing places. -/
theorem whole_open (f : Buf (Elt F) (cLoc c)) :
    (cLoc c ↦{fullShare} f : sProp 𝕄) ⊢ iprop((cLoc c ↦[slot0]{fullShare} f) ∗ bigSep Finset.univ fun n => landing c n) := by
  have h (n : Fin 16) : (cLoc c ↦[dSet n]{fullShare} f : sProp 𝕄) ⊢ landing c n := by
    unfold landing
    iintro H; iexists f; iexact H
  exact (whole_cut c f).1.trans (sep_mono_right (bigSep_mono fun n _ => h n))

/-! ## The barrier -/

omit [FloatOps F] in
/-- All copies are those to the right and those to the left. -/
theorem bigSep_ways (Φ : Fin 16 → sProp 𝕄) :
    bigSep Finset.univ Φ = iprop((bigSep (Finset.univ.filter fun n => isR n = true) Φ) ∗ bigSep (Finset.univ.filter fun n => isR n = false) Φ) := by
  rw [bigSep_filter_split Finset.univ fun n => isR n = true]
  have h : (Finset.univ.filter fun n => isR n = false) = Finset.univ.filter fun n : Fin 16 => ¬ isR n = true := by decide
  rw [h]; rfl

/-- A copy to the right from the left neighbour comes here … -/
theorem dstD_prv (n : Fin 16) (h : isR n = true) : dstD (prv c) n = c := by unfold dstD; rw [if_pos h, nxt_prv]
/-- … and so does a copy to the left from the right one. -/
theorem dstD_nxt (n : Fin 16) (h : isR n = false) : dstD (nxt c) n = c := by unfold dstD; rw [if_neg (by rw [h]; decide), prv_nxt]

omit [FloatOps F] in
/-- A device's landing places go to its neighbours: those of the copies going right to the left one, the others to the right one. -/
theorem hand_over : (bigSep Finset.univ fun n => landing c n : sProp 𝕄) ⊢ iprop(barPay (prv c) true ∗ barPay (nxt c) false) := by
  rw [bigSep_ways]
  unfold barPay
  refine BIClass.sep_mono (Entails.of_eq (bigSep_congr fun n hn => ?_)) (Entails.of_eq (bigSep_congr fun n hn => ?_))
  · rw [dstD_prv c n (Finset.mem_filter.mp hn).2]
  · rw [dstD_nxt c n (Finset.mem_filter.mp hn).2]

omit [FloatOps F] in
/-- Two assertions along one list, joined. -/
theorem along_sep (Φ Ψ : Fin 16 → sProp 𝕄) (l : List (Fin 16)) : iprop(along Φ l ∗ along Ψ l) ⊢ along (fun n => iprop(Φ n ∗ Ψ n)) l := by
  induction l with
  | nil => exact sep_elim_left
  | cons n l ih =>
    show iprop((Φ n ∗ along Φ l) ∗ (Ψ n ∗ along Ψ l)) ⊢ iprop((Φ n ∗ Ψ n) ∗ along _ l)
    iintro ⟨⟨Ha, Hb⟩, Hc, Hd⟩
    isplitl [Ha Hc]; · isplitl [Ha] <;> iassumption
    iapply ih
    isplitl [Hb] <;> iassumption

/-- The order of the starts goes over every copy. -/
theorem order_all : (Finset.univ : Finset (Fin 16)) = order.toFinset := by decide

/-- The rights to pay the semaphores of a device's copies. -/
def rights (n : Fin 16) : sProp 𝕄 := iprop(dutyTok ER (sndCell c n) 0 false ∗ dutyTok ER (rcvCell (dstD c n) n) 0 false)

omit [FloatOps F] in
/-- What the barrier brings makes every copy ready. -/
theorem take_over : (iprop((barPay c false ∗ barPay c true) ∗ along (rights c) order) : sProp 𝕄) ⊢ along (ready c) order := by
  refine (sep_mono_left ?_).trans (along_sep (fun n => landing (dstD c n) n) (rights c) order)
  rw [← bigSep_along (fun n => landing (dstD c n) n) order (by decide) order_all, bigSep_ways]
  unfold barPay
  exact sep_comm.1

/-! ## Reading and writing the buffer -/

/-- What a load of a block of the exchange buffer brings once the block holds its final contents. -/
def cread (o sz : Fin 4 → ℕ) (h : ∀ a, o a + sz a ≤ S4x4x512x1024.size a) : Vec F ⟨4, sz⟩ .bf16 :=
  (cM : Memref sig .tc .vmem S4x4x512x1024 .bf16).view.readAt (Elt F) (Rect.unit (s := S4x4x512x1024) o sz h).toLoadRect (commOf W c : Vec F S4x4x512x1024 .bf16)

/-- A load of a block reads the block's elements. -/
theorem loads_box {o sz : Fin 4 → ℕ} {h : ∀ a, o a + sz a ≤ S4x4x512x1024.size a} :
    (cM : Memref sig .tc .vmem S4x4x512x1024 .bf16).view.setOn (Rect.unit (s := S4x4x512x1024) o sz h).toLoadRect.set = box o sz := by
  refine Eq.trans ?_ (rect_box (h := h))
  exact Finset.map_refl

/-- A load of a block of which a piece is held. -/
theorem wp_cread {o sz : Fin 4 → ℕ} {h : ∀ a, o a + sz a ≤ S4x4x512x1024.size a} {S : Finset S4x4x512x1024.Idx} (hS : box o sz ⊆ S) {q : PosShare TreeShare}
    {hl : (cM : Memref sig .tc .vmem S4x4x512x1024 .bf16).view.LoadsAt (Rect.unit (s := S4x4x512x1024) o sz h).toLoadRect}
    {α : Type} {Q : α → sProp 𝕄} {k : Vec F ⟨4, sz⟩ .bf16 → Prog (TpuEff nD τ sig (Elt F) Λ₀ .tc) α} :
    piece W c S q ⊢ iprop((piece W c S q -∗ wp frame (wpE (defs₀ (F := F)) 𝒱₀ (c : Thread nD τ) none) Set.univ (k (cread W c o sz h)) Q)
      -∗ wp frame (wpE (defs₀ (F := F)) 𝒱₀ (c : Thread nD τ) none) Set.univ (.op (.load cM (Rect.unit (s := S4x4x512x1024) o sz h).toLoadRect hl) k) Q) := by
  unfold piece cread
  exact wp_load 𝒱₀ (c : Thread nD τ) none Set.univ (m := cM) (by rw [loads_box]; exact hS)

/-- Storing a device's own experts into slot 0. -/
theorem store_slot0 (f : Vec F S4x4x512x1024 .bf16) {h : ∀ a, (![0, 0, 0, 0] : Fin 4 → ℕ) a + S1x4x512x1024.size a ≤ S4x4x512x1024.size a} :
    ∀ i ∈ slot0, ((cM.access (Rect.unit (s := S4x4x512x1024) ![0, 0, 0, 0] S1x4x512x1024.size h) : View sig .tc _ _ _).write (Elt F) f (k0_pay1 (W c)) Finset.univ : Vec F S4x4x512x1024 .bf16) i
      = commOf W c i := by
  intro i hi
  have hr : (cM.access (Rect.unit (s := S4x4x512x1024) ![0, 0, 0, 0] S1x4x512x1024.size h) : View sig .tc _ _ _).set = slot0 :=
    (View.set_slice_whole cc0_scratch0 _).trans rect_box
  rw [← hr] at hi
  obtain ⟨x, -, rfl⟩ := Finset.mem_map.mp hi
  refine (View.write_emb_of_mem _ _ (Finset.mem_univ x)).trans ?_
  show k0_pay1 (W c) x = commOf W c ((Rect.unit (s := S4x4x512x1024) ![0, 0, 0, 0] S1x4x512x1024.size h).emb x)
  have h0 : (x 0).val = 0 := by have : (x 0).val < 1 := (x 0).isLt; omega
  have e (a : Fin 4) : (((Rect.unit (s := S4x4x512x1024) ![0, 0, 0, 0] S1x4x512x1024.size h).emb x) a).val = (x a).val := by
    rw [Rect.emb_apply]; fin_cases a <;> simp
  unfold k0_pay1 commOf
  rw [e 0, h0, shapeCast_self]
  refine (shapeCast_addUnit_apply ![4, 512, 1024] (W c) _ x).trans (congrArg (W c) (funext fun a => Fin.ext ?_))
  match a with
  | 0 => exact (e 1).symm
  | 1 => exact (e 2).symm
  | 2 => exact (e 3).symm

/-! ## Whole buffers -/

/-- A buffer of device `c`'s, whole, at its contents. -/
def hold (b : Ref sig .tc) (f : b.ty.Contents (Elt F)) : sProp 𝕄 := ((c : Thread nD τ).loc b) ↦{fullShare} (f : Buf (Elt F) ((c : Thread nD τ).loc b))

/-- Loading from a buffer held whole, where the load is known to read `g`. -/
theorem wp_get {s : Shape} {e : EltTy} (m : Memref sig .tc .vmem s e) {r : Rect s} {f : m.view.ref.ty.Contents (Elt F)} {g : r.shape.Idx → Elt F e}
    (hg : m.view.readAt (Elt F) r.toLoadRect f = g) {hl : m.view.LoadsAt r.toLoadRect}
    {α : Type} {Q : α → sProp 𝕄} {k : (r.shape.Idx → Elt F e) → Prog (TpuEff nD τ sig (Elt F) Λ₀ .tc) α} :
    hold c m.view.ref f ⊢ iprop((hold c m.view.ref f -∗ wp frame (wpE (defs₀ (F := F)) 𝒱₀ (c : Thread nD τ) none) Set.univ (k g) Q)
      -∗ wp frame (wpE (defs₀ (F := F)) 𝒱₀ (c : Thread nD τ) none) Set.univ (.op (.load m r.toLoadRect hl) k) Q) := by
  subst hg
  exact wp_load 𝒱₀ (c : Thread nD τ) none Set.univ (m := m) (Finset.subset_univ _)

/-- Storing into a buffer held whole, where the store is known to leave `g`. -/
theorem wp_put {s : Shape} {e : EltTy} (m : Memref sig .tc .vmem s e) {r : Rect s} {f g : m.view.ref.ty.Contents (Elt F)} {w : r.shape.Idx → Elt F e}
    (hg : (m.access r).write (Elt F) f w Finset.univ = g) {hx : (m.access r).Stores Finset.univ} {hm}
    {α : Type} {Q : α → sProp 𝕄} {k : PUnit → Prog (TpuEff nD τ sig (Elt F) Λ₀ .tc) α} :
    hold c m.view.ref f ⊢ iprop((hold c m.view.ref g -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  subst hg
  exact wp_store 𝒱₀ (c : Thread nD τ) none Set.univ (m := m) (r := r) (Mk := Finset.univ) (Finset.subset_univ _)

end Cert.KernelIdeal.Moe

end
-- ==== Proof.Parts1.lean ====
/-
The kernel's first half, part by part: the barrier, the copies of the device's own experts, the routing weights, the
product with the device's own experts, and the copies that forward what has arrived.
-/
module

public import proofs.«01_k».proof.Proof.Pieces

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel on the launch's buffers. -/
abbrev run {α : Type 1} (p : ∀ (arg0 : Memref sig .tc .vmem S2048x512 .bf16) (harg0 : arg0.IsWhole) (arg1 : Memref sig .tc .vmem S512x16 .bf16) (harg1 : arg1.IsWhole)
    (arg2 : Memref sig .tc .vmem S2048x2 .i32) (harg2 : arg2.IsWhole) (arg3 : Memref sig .tc .vmem S4x512x1024 .bf16) (harg3 : arg3.IsWhole)
    (arg4 : Memref sig .tc .vmem S2048x1024 .f32) (harg4 : arg4.IsWhole) (arg5 : Memref sig .tc .vmem S4x4x512x1024 .bf16) (harg5 : arg5.IsWhole)
    (arg6 : Memref sig .tc .vmem S2048x16 .f32) (harg6 : arg6.IsWhole) (arg7 : Memref sig .tc .vmem S2048x512 .bf16) (harg7 : arg7.IsWhole)
    (arg8 : DmaSems sig S16) (arg9 : DmaSems sig S16), α) : α :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4

/-! ## Words and values -/

/-- Device `c`'s place on the ring, as the kernel computes it … -/
abbrev w2 (c : Dev nD) : BitVec 32 := Scalar.remsi (Scalar.divsi (Dev.word c) 1#32) 4#32
/-- … its left neighbour's place … -/
abbrev w4 (c : Dev nD) : BitVec 32 := Scalar.remsi (Scalar.addi (w2 c) 3#32) 4#32
/-- … the right neighbour's … -/
abbrev w6 (c : Dev nD) : BitVec 32 := Scalar.remsi (Scalar.addi (w2 c) 1#32) 4#32
/-- … and the opposite device's. -/
abbrev w8 (c : Dev nD) : BitVec 32 := Scalar.remsi (Scalar.addi (w2 c) 2#32) 4#32

/-- The zero offset in two axes … -/
theorem hz2 : (![0, 0] : Fin 2 → ℕ) = fun _ => 0 := funext fun a => by fin_cases a <;> rfl
/-- … and in three. -/
theorem hz3 : (![0, 0, 0] : Fin 3 → ℕ) = fun _ => 0 := funext fun a => by fin_cases a <;> rfl

/-- The order in which arrivals are waited for. -/
abbrev arrivals : List (Fin 16) := [0, 1, 7, 6, 2, 3, 5, 4, 8, 14, 9, 15, 10, 12, 11, 13]

/-- The first signal goes to the left neighbour … -/
theorem dev1 (c : Dev nD) : (⟨k0_dev1 c, k0_dev1_lt c⟩ : Dev nD) = prv c := Fin.ext (k0_dev1_eq c)
/-- … and the second to the right one. -/
theorem dev2 (c : Dev nD) : (⟨k0_dev2 c, k0_dev2_lt c⟩ : Dev nD) = nxt c := Fin.ext (k0_dev2_eq c)

variable (W : Dev nD → Vec F S4x512x1024 .bf16) (K : Dev nD × Fin 33 → ℕ) (c : Dev nD)

/-- The store of the device's own experts into slot 0. -/
theorem wp_slot0 {f : Vec F S4x4x512x1024 .bf16} {h : ∀ a, (![0, 0, 0, 0] : Fin 4 → ℕ) a + S1x4x512x1024.size a ≤ S4x4x512x1024.size a}
    {hx : (cM.access (Rect.unit (s := S4x4x512x1024) ![0, 0, 0, 0] S1x4x512x1024.size h) : View sig .tc _ _ _).Stores Finset.univ} {hm}
    {α : Type} {Q : α → sProp 𝕄} {k : PUnit → Prog (TpuEff nD τ sig (Elt F) Λ₀ .tc) α} :
    ((cLoc c ↦[slot0]{fullShare} (f : Buf (Elt F) (cLoc c))) : sProp 𝕄)
      ⊢ iprop((piece W c slot0 fullShare -∗ wp frame (wpE (defs₀ (F := F)) 𝒱₀ (c : Thread nD τ) none) Set.univ (k ⟨⟩) Q)
        -∗ wp frame (wpE (defs₀ (F := F)) 𝒱₀ (c : Thread nD τ) none) Set.univ
          (.op (.store cM (Rect.unit (s := S4x4x512x1024) ![0, 0, 0, 0] S1x4x512x1024.size h) (k0_pay1 (W c)) Finset.univ hx hm) k) Q) := by
  have e : piece W c slot0 fullShare = ((cLoc c ↦[slot0]{fullShare}
      ((cM.access (Rect.unit (s := S4x4x512x1024) ![0, 0, 0, 0] S1x4x512x1024.size h) : View sig .tc _ _ _).write (Elt F) f (k0_pay1 (W c)) Finset.univ : Buf (Elt F) (cLoc c))) : sProp 𝕄) :=
    (pointsTo_congr (store_slot0 W c f (h := h))).symm
  rw [e]
  exact wp_store 𝒱₀ (c : Thread nD τ) none Set.univ (m := cM) (r := Rect.unit (s := S4x4x512x1024) ![0, 0, 0, 0] S1x4x512x1024.size h) (Mk := Finset.univ)
    (Finset.Subset.trans (View.setOn_subset_set _ _) (le_of_eq ((View.set_slice_whole cc0_scratch0 _).trans rect_box)))

set_option maxHeartbeats 800000 in
/-- The device's own experts into slot 0, then the barrier: the landing places handed over, those of its copies taken over. -/
theorem part1 {Q : (Σ' (d0 : Dev nD) (v2 : BitVec 32) (v4 : BitVec 32), BitVec 32) → sProp 𝕄} :
    iprop(ctx W K ∗ hold c cc0_stg3_0 (W c) ∗ (∃ f : Buf (Elt F) (cLoc c), cLoc c ↦{fullShare} f) ∗ owe c (O₀ c)
        ∗ dutyTok ER (barCell (prv c)) 0 true ∗ dutyTok ER (barCell (nxt c)) 0 false ∗ cred (tallyAt (barCell c) () 2) ∗ atPos ER (barCell c) 0 ∅ 0 ∗ along (rights c) order)
      ⊢ iprop(((hold c cc0_stg3_0 (W c) ∗ piece W c slot0 fullShare ∗ owe c (owed c order) ∗ along (ready c) order ∗ semVal (barCell c) 0) -∗ Q ⟨c, w2 c, w4 c, w6 c⟩)
          -∗ wp frame (wpE (defs₀ (F := F)) 𝒱₀ (c : Thread nD τ) none) Set.univ (run k0_part1) Q) := by
  simp only [run, k0_part1_eq_skeleton]; unfold k0_part1_skel
  simp only [semSignalWord, semWaitWord, Prog.lift, Prog.bind_op, Prog.bind_ret, Prog.pure_eq_ret, wp_deviceId]
  simp only [dev1 c, dev2 c]
  iintro ⟨#HC, Hew, ⟨%f, Hc⟩, Ho, HtP, HtN, Hcr, Hat, Hri⟩ Hk
  unfold owe
  icases Ho with ⟨%V, HO⟩
  icases (whole_open c f) $$ Hc with ⟨Hs0, Hland⟩
  icases (hand_over c) $$ Hland with ⟨HpayP, HpayN⟩
  iapply (wp_get c (Memref.whole cc0_stg3_0) (Memref.readAt_unit_zero (Elt F) cc0_stg3_0 hz3 _ _)) $$ Hew; iintro Hew
  iapply (wp_load 𝒱₀ (c : Thread nD τ) none Set.univ (m := cM) (by rw [loads_box])) $$ Hs0; iintro Hs0
  iapply (wp_slot0 W c) $$ Hs0; iintro Hs0
  -- the signal to the left neighbour: the landing places of the copies it sends right
  unfold O₀
  iapply (Rounds.wp_signal 𝒱₀ ER (ringRd W) (c : Thread nD τ) none (dst := (prv c : Thread nD τ)) (κ := K (prv c, 0))
      (d := true) (by rw [duties_bar]; exact Finset.mem_univ _) ((amount_bar W (prv c) true).trans (by decide)) () (O₁ c) rfl)
    $$ [HO HtP HpayP]
  · isplitr; · iapply (ctx_inv W K (prv c, 0)); iexact HC
    isplitl [HO]; · iexact HO
    isplitl [HtP]; · iexact HtP
    isplitl [HpayP]; · rw [payload_bar]; iexact HpayP
    iapply (ctx_reached W K (prv c, 0)); iexact HC
  iintro HO
  -- the signal to the right neighbour
  unfold O₁
  iapply (Rounds.wp_signal 𝒱₀ ER (ringRd W) (c : Thread nD τ) none (dst := (nxt c : Thread nD τ)) (κ := K (nxt c, 0))
      (d := false) (by rw [duties_bar]; exact Finset.mem_univ _) ((amount_bar W (nxt c) false).trans (by decide)) () (owed c order) rfl)
    $$ [HO HtN HpayN]
  · isplitr; · iapply (ctx_inv W K (nxt c, 0)); iexact HC
    isplitl [HO]; · iexact HO
    isplitl [HtN]; · iexact HtN
    isplitl [HpayN]; · rw [payload_bar]; iexact HpayN
    iapply (ctx_reached W K (nxt c, 0)); iexact HC
  iintro HO
  -- both neighbours' units
  iapply (Rounds.wp_wait_rest_token 𝒱₀ ER (ringRd W) (c : Thread nD τ) none (κ := K (c, 0))
      (wpE_semWait_eq 𝒱₀ (c : Thread nD τ) none Set.univ) (Set.mem_univ _) () (O := owed c order) (W := V) (R := 0) (m := 0) (T := ∅)
      (by rw [expect_bar]; decide)) $$ [Hcr HO Hat]
  · isplitr; · iapply (ctx_inv W K (c, 0)); iexact HC
    isplitl [Hcr]; · iexact Hcr
    isplitl [HO]; · iexact HO
    isplitr; · iapply (mayWait_owed c (.reg barS) order 1 (by rw [role_bar]; exact le_refl _) (by decide)); iapply (ctx_lev W K); iexact HC
    iexact Hat
  iintro ⟨HO, Hat, -, Hpay⟩
  ihave Hp := (Entails.of_eq (rest_bar W c)) $$ Hpay
  imod (Rounds.cell_close ER (ringRd W) (Set.mem_univ (K (c, 0))) (fun h => h) (R := 0 + 1) (duties_later W (barCell c))) $$ [Hat] with Hz
  · isplitr; · iapply (ctx_inv W K (c, 0)); iexact HC
    iexact Hat
  rw [wp_ret]; imodintro
  iapply Hk
  isplitl [Hew]; · iexact Hew
  isplitl [Hs0]; · iexact Hs0
  isplitl [HO]; · iexists _; iexact HO
  isplitl [Hp Hri]
  · iapply (take_over c)
    isplitl [Hp] <;> iassumption
  iexact Hz

/-- Where the program's copy 1 goes. -/
theorem dev3 (c : Dev nD) : (⟨k0_dev3 c, k0_dev3_lt c⟩ : Dev nD) = dstD c 0 := Fin.ext (k0_dev3_eq c)
/-- Where the program's copy 2 goes. -/
theorem dev4 (c : Dev nD) : (⟨k0_dev4 c, k0_dev4_lt c⟩ : Dev nD) = dstD c 1 := Fin.ext (k0_dev4_eq c)
/-- Where the program's copy 3 goes. -/
theorem dev5 (c : Dev nD) : (⟨k0_dev5 c, k0_dev5_lt c⟩ : Dev nD) = dstD c 2 := Fin.ext (k0_dev5_eq c)
/-- Where the program's copy 4 goes. -/
theorem dev6 (c : Dev nD) : (⟨k0_dev6 c, k0_dev6_lt c⟩ : Dev nD) = dstD c 3 := Fin.ext (k0_dev6_eq c)
/-- Where the program's copy 5 goes. -/
theorem dev7 (c : Dev nD) : (⟨k0_dev7 c, k0_dev7_lt c⟩ : Dev nD) = dstD c 7 := Fin.ext (k0_dev7_eq c)
/-- Where the program's copy 6 goes. -/
theorem dev8 (c : Dev nD) : (⟨k0_dev8 c, k0_dev8_lt c⟩ : Dev nD) = dstD c 6 := Fin.ext (k0_dev8_eq c)
/-- Where the program's copy 7 goes. -/
theorem dev9 (c : Dev nD) : (⟨k0_dev9 c, k0_dev9_lt c⟩ : Dev nD) = dstD c 5 := Fin.ext (k0_dev9_eq c)
/-- Where the program's copy 8 goes. -/
theorem dev10 (c : Dev nD) : (⟨k0_dev10 c, k0_dev10_lt c⟩ : Dev nD) = dstD c 4 := Fin.ext (k0_dev10_eq c)

/-- Where the program's copy 9 goes. -/
theorem dev11 (c : Dev nD) : (⟨k0_dev11 c, k0_dev11_lt c⟩ : Dev nD) = dstD c 8 := Fin.ext (k0_dev11_eq c)
/-- Where the program's copy 10 goes. -/
theorem dev12 (c : Dev nD) : (⟨k0_dev12 c, k0_dev12_lt c⟩ : Dev nD) = dstD c 9 := Fin.ext (k0_dev12_eq c)
/-- Where the program's copy 11 goes. -/
theorem dev13 (c : Dev nD) : (⟨k0_dev13 c, k0_dev13_lt c⟩ : Dev nD) = dstD c 10 := Fin.ext (k0_dev13_eq c)
/-- Where the program's copy 12 goes. -/
theorem dev14 (c : Dev nD) : (⟨k0_dev14 c, k0_dev14_lt c⟩ : Dev nD) = dstD c 11 := Fin.ext (k0_dev14_eq c)
/-- Where the program's copy 13 goes. -/
theorem dev15 (c : Dev nD) : (⟨k0_dev15 c, k0_dev15_lt c⟩ : Dev nD) = dstD c 14 := Fin.ext (k0_dev15_eq c)
/-- Where the program's copy 14 goes. -/
theorem dev16 (c : Dev nD) : (⟨k0_dev16 c, k0_dev16_lt c⟩ : Dev nD) = dstD c 15 := Fin.ext (k0_dev16_eq c)
/-- Where the program's copy 15 goes. -/
theorem dev17 (c : Dev nD) : (⟨k0_dev17 c, k0_dev17_lt c⟩ : Dev nD) = dstD c 12 := Fin.ext (k0_dev17_eq c)
/-- Where the program's copy 16 goes. -/
theorem dev18 (c : Dev nD) : (⟨k0_dev18 c, k0_dev18_lt c⟩ : Dev nD) = dstD c 13 := Fin.ext (k0_dev18_eq c)

/-! ## Reads of the buffers held whole -/

/-- The routing weights and the rounded tokens the device works with. -/
def vals (w : Vec F S2048x16 .f32) (xb : Vec F S2048x512 .bf16) : sProp 𝕄 := iprop(hold c cc0_scratch1 w ∗ hold c cc0_scratch2 xb)

/-- A read of the routing weights and one of the tokens. -/
theorem wp_vals {w : Vec F S2048x16 .f32} {xb : Vec F S2048x512 .bf16}
    {h h' hl hl'} {α : Type} {Q : α → sProp 𝕄} {k : Vec F S2048x16 .f32 → Vec F S2048x512 .bf16 → Prog (TpuEff nD τ sig (Elt F) Λ₀ .tc) α} :
    vals c w xb ⊢ iprop((vals c w xb -∗ wp frame (wpE (defs₀ (F := F)) 𝒱₀ (c : Thread nD τ) none) Set.univ (k w xb) Q)
      -∗ wp frame (wpE (defs₀ (F := F)) 𝒱₀ (c : Thread nD τ) none) Set.univ (.op (.load (Memref.whole cc0_scratch1) (Rect.unit (s := S2048x16) ![0, 0] S2048x16.size h).toLoadRect hl)
          fun v => .op (.load (Memref.whole cc0_scratch2) (Rect.unit (s := S2048x512) ![0, 0] S2048x512.size h').toLoadRect hl') (k v)) Q) := by
  unfold vals
  iintro ⟨Hw, Hx⟩ Hk
  iapply (wp_get c (Memref.whole cc0_scratch1) (Memref.readAt_unit_zero (Elt F) cc0_scratch1 hz2 _ _)) $$ Hw; iintro Hw
  iapply (wp_get c (Memref.whole cc0_scratch2) (Memref.readAt_unit_zero (Elt F) cc0_scratch2 hz2 _ _)) $$ Hx; iintro Hx
  iapply Hk
  isplitl [Hw] <;> iassumption

/-- A read of the sum so far. -/
theorem wp_sum {o : Vec F S2048x1024 .f32}
    {h hl} {α : Type} {Q : α → sProp 𝕄} {k : Vec F S2048x1024 .f32 → Prog (TpuEff nD τ sig (Elt F) Λ₀ .tc) α} :
    hold c cc0_stg4_0 o ⊢ iprop((hold c cc0_stg4_0 o -∗ wp frame (wpE (defs₀ (F := F)) 𝒱₀ (c : Thread nD τ) none) Set.univ (k o) Q)
      -∗ wp frame (wpE (defs₀ (F := F)) 𝒱₀ (c : Thread nD τ) none) Set.univ (.op (.load (Memref.whole cc0_stg4_0) (Rect.unit (s := S2048x1024) ![0, 0] S2048x1024.size h).toLoadRect hl) k) Q) :=
  wp_get c (Memref.whole cc0_stg4_0) (Memref.readAt_unit_zero (Elt F) cc0_stg4_0 hz2 _ _)

/-- A read of the sum so far, unused, and the new sum stored over it. -/
theorem wp_resum {o o' : Vec F S2048x1024 .f32}
    {h h' hl hx hm} {α : Type} {Q : α → sProp 𝕄} {k : PUnit → Prog (TpuEff nD τ sig (Elt F) Λ₀ .tc) α} :
    hold c cc0_stg4_0 o ⊢ iprop((hold c cc0_stg4_0 o' -∗ wp frame (wpE (defs₀ (F := F)) 𝒱₀ (c : Thread nD τ) none) Set.univ (k ⟨⟩) Q)
      -∗ wp frame (wpE (defs₀ (F := F)) 𝒱₀ (c : Thread nD τ) none) Set.univ (.op (.load (Memref.whole cc0_stg4_0) (Rect.unit (s := S2048x1024) ![0, 0] S2048x1024.size h).toLoadRect hl)
          fun _ => .op (.store (Memref.whole cc0_stg4_0) (Rect.unit (s := S2048x1024) ![0, 0] S2048x1024.size h') o' Finset.univ hx hm) k) Q) := by
  iintro Ho Hk
  iapply (wp_sum c) $$ Ho; iintro Ho
  iapply (wp_put c (Memref.whole cc0_stg4_0) (g := o') (Memref.write_access_unit_zero_univ (Elt F) cc0_stg4_0 hz2 _ _ _)) $$ Ho; iintro Ho
  iapply Hk; iexact Ho

/-- The first column of the expert numbers … -/
def col0 (I : Vec F S2048x2 .i32) : Vec F S2048x1 .i32 :=
  (Memref.whole cc0_stg2_0 : Memref sig .tc .vmem S2048x2 .i32).view.readAt (Elt F) (Rect.unit (s := S2048x2) ![0, 0] S2048x1.size inb_S2048x2_S2048x1_0_0).toLoadRect I
/-- The second column. -/
def col1 (I : Vec F S2048x2 .i32) : Vec F S2048x1 .i32 :=
  (Memref.whole cc0_stg2_0 : Memref sig .tc .vmem S2048x2 .i32).view.readAt (Elt F) (Rect.unit (s := S2048x2) ![0, 1] S2048x1.size inb_S2048x2_S2048x1_0_1).toLoadRect I

/-! ## The parts -/

/-- The copies of the device's first three blocks to the right. -/
theorem part2 (v6 : BitVec 32) {l f s r z : List (Fin 16)} {Q : BitVec 32 → sProp 𝕄} :
    iprop(ctx W K ∗ src W c 0 ∗ src W c 1 ∗ src W c 2 ∗ st W c (0 :: 1 :: 2 :: l) f s r z)
      ⊢ iprop(((st W c l (f ++ [0] ++ [1] ++ [2]) s r z) -∗ Q (Scalar.muli v6 1#32)) -∗ wp frame (wpE (defs₀ (F := F)) 𝒱₀ (c : Thread nD τ) none) Set.univ (run k0_part2 c v6) Q) := by
  simp only [run, k0_part2_eq_skeleton]; unfold k0_part2_skel
  simp only [Prog.lift, Prog.bind_op, Prog.bind_ret, Prog.pure_eq_ret]
  iintro ⟨#HC, H0, H1, H2, Hst⟩ Hk
  iapply (wp_start W K c 0 (dev3 c) rfl rfl rfl rfl rfl rfl) $$ [H0 Hst]
  · isplitr; · iexact HC
    isplitl [H0] <;> iassumption
  iintro Hst
  iapply (wp_start W K c 1 (dev4 c) rfl rfl rfl rfl rfl rfl) $$ [H1 Hst]
  · isplitr; · iexact HC
    isplitl [H1] <;> iassumption
  iintro Hst
  iapply (wp_start W K c 2 (dev5 c) rfl rfl rfl rfl rfl rfl) $$ [H2 Hst]
  · isplitr; · iexact HC
    isplitl [H2] <;> iassumption
  iintro Hst
  rw [wp_ret]; imodintro
  iapply Hk
  iexact Hst

/-- The fourth block to the right and the last to the left. -/
theorem part3 (v4 v47 : BitVec 32) {l f s r z : List (Fin 16)} {Q : PUnit → sProp 𝕄} :
    iprop(ctx W K ∗ src W c 3 ∗ src W c 7 ∗ st W c (3 :: 7 :: l) f s r z)
      ⊢ iprop(((st W c l (f ++ [3] ++ [7]) s r z) -∗ Q (⟨⟩)) -∗ wp frame (wpE (defs₀ (F := F)) 𝒱₀ (c : Thread nD τ) none) Set.univ (run k0_part3 c v4 v47) Q) := by
  simp only [run, k0_part3_eq_skeleton]; unfold k0_part3_skel
  simp only [Prog.lift, Prog.bind_op, Prog.bind_ret, Prog.pure_eq_ret]
  iintro ⟨#HC, H3, H7, Hst⟩ Hk
  iapply (wp_start W K c 3 (dev6 c) rfl rfl rfl rfl rfl rfl) $$ [H3 Hst]
  · isplitr; · iexact HC
    isplitl [H3] <;> iassumption
  iintro Hst
  iapply (wp_start W K c 7 (dev7 c) rfl rfl rfl rfl rfl rfl) $$ [H7 Hst]
  · isplitr; · iexact HC
    isplitl [H7] <;> iassumption
  iintro Hst
  rw [wp_ret]; imodintro
  iapply Hk
  iexact Hst

/-- The other blocks to the left, and the products of the tokens with the routing matrix. -/
theorem part4 (v4 : BitVec 32) {X : Vec F S2048x512 .bf16} {R : Vec F S512x16 .bf16} {l f s r z : List (Fin 16)} {Q : (Σ' (v101 : FVec F S2048x16 .f32), FVec F S2048x1 .f32) → sProp 𝕄} :
    iprop(ctx W K ∗ src W c 6 ∗ src W c 5 ∗ src W c 4 ∗ hold c cc0_stg0_0 X ∗ hold c cc0_stg1_0 R ∗ st W c (6 :: 5 :: 4 :: l) f s r z)
      ⊢ iprop(((hold c cc0_stg0_0 X ∗ hold c cc0_stg1_0 R ∗ st W c l (f ++ [6] ++ [5] ++ [4]) s r z) -∗ Q (⟨k0_pay2 X R, k0_pay3 X R⟩)) -∗ wp frame (wpE (defs₀ (F := F)) 𝒱₀ (c : Thread nD τ) none) Set.univ (run k0_part4 c v4) Q) := by
  simp only [run, k0_part4_eq_skeleton]; unfold k0_part4_skel
  simp only [Prog.lift, Prog.bind_op, Prog.bind_ret, Prog.pure_eq_ret]
  iintro ⟨#HC, H6, H5, H4, HX, HR, Hst⟩ Hk
  iapply (wp_start W K c 6 (dev8 c) rfl rfl rfl rfl rfl rfl) $$ [H6 Hst]
  · isplitr; · iexact HC
    isplitl [H6] <;> iassumption
  iintro Hst
  iapply (wp_start W K c 5 (dev9 c) rfl rfl rfl rfl rfl rfl) $$ [H5 Hst]
  · isplitr; · iexact HC
    isplitl [H5] <;> iassumption
  iintro Hst
  iapply (wp_start W K c 4 (dev10 c) rfl rfl rfl rfl rfl rfl) $$ [H4 Hst]
  · isplitr; · iexact HC
    isplitl [H4] <;> iassumption
  iintro Hst
  iapply (wp_get c (Memref.whole cc0_stg0_0) (Memref.readAt_unit_zero (Elt F) cc0_stg0_0 hz2 _ _)) $$ HX; iintro HX
  iapply (wp_get c (Memref.whole cc0_stg1_0) (Memref.readAt_unit_zero (Elt F) cc0_stg1_0 hz2 _ _)) $$ HR; iintro HR
  rw [wp_ret]; imodintro
  iapply Hk
  isplitl [HX]; · iexact HX
  isplitl [HR]; · iexact HR
  iexact Hst

/-- The routing weights, the tokens and a zero sum stored. -/
theorem part5 (v2 : BitVec 32) (v101 : FVec F S2048x16 .f32) (v103 : FVec F S2048x1 .f32) {X : Vec F S2048x512 .bf16} {I : Vec F S2048x2 .i32} {w : Vec F S2048x16 .f32} {xb : Vec F S2048x512 .bf16} {o : Vec F S2048x1024 .f32} {Q : IVec S2048x16 1 → sProp 𝕄} :
    iprop(hold c cc0_stg0_0 X ∗ hold c cc0_stg2_0 I ∗ hold c cc0_scratch1 w ∗ hold c cc0_scratch2 xb ∗ hold c cc0_stg4_0 o)
      ⊢ iprop(((hold c cc0_stg0_0 X ∗ hold c cc0_stg2_0 I ∗ vals c (k0_pay4 v101 v103 (col0 I) (col1 I)) (k0_pay5 X) ∗ hold c cc0_stg4_0 (k0_pay6 (F := F))) -∗ Q (k0_pay7 v2)) -∗ wp frame (wpE (defs₀ (F := F)) 𝒱₀ (c : Thread nD τ) none) Set.univ (run k0_part5 v2 v101 v103) Q) := by
  simp only [run, k0_part5_eq_skeleton]; unfold k0_part5_skel
  simp only [Prog.lift, Prog.bind_op, Prog.bind_ret, Prog.pure_eq_ret]
  iintro ⟨HX, HI, Hw, Hx, Ho⟩ Hk
  iapply (wp_get c (Memref.whole cc0_stg2_0) (g := col0 I) rfl) $$ HI; iintro HI
  iapply (wp_get c (Memref.whole cc0_stg2_0) (g := col1 I) rfl) $$ HI; iintro HI
  iapply (wp_get c (Memref.whole cc0_scratch1) (Memref.readAt_unit_zero (Elt F) cc0_scratch1 hz2 _ _)) $$ Hw; iintro Hw
  iapply (wp_put c (Memref.whole cc0_scratch1) (g := k0_pay4 v101 v103 (col0 I) (col1 I)) (Memref.write_access_unit_zero_univ (Elt F) cc0_scratch1 hz2 _ _ _)) $$ Hw; iintro Hw
  iapply (wp_get c (Memref.whole cc0_stg0_0) (Memref.readAt_unit_zero (Elt F) cc0_stg0_0 hz2 _ _)) $$ HX; iintro HX
  iapply (wp_get c (Memref.whole cc0_scratch2) (Memref.readAt_unit_zero (Elt F) cc0_scratch2 hz2 _ _)) $$ Hx; iintro Hx
  iapply (wp_put c (Memref.whole cc0_scratch2) (g := k0_pay5 X) (Memref.write_access_unit_zero_univ (Elt F) cc0_scratch2 hz2 _ _ _)) $$ Hx; iintro Hx
  iapply (wp_resum c) $$ Ho; iintro Ho
  rw [wp_ret]; imodintro
  iapply Hk
  isplitl [HX]; · iexact HX
  isplitl [HI]; · iexact HI
  isplitl [Hw Hx]; · unfold vals; isplitl [Hw] <;> iassumption
  iexact Ho

/-- The tokens scaled for the device's own first three experts. -/
theorem part6 (v2 : BitVec 32) (v141 : IVec S2048x16 1) {w : Vec F S2048x16 .f32} {xb : Vec F S2048x512 .bf16} {Q : (Σ' (v150 : FVec F S2048x512 .bf16) (v164 : FVec F S2048x512 .bf16) (v178 : FVec F S2048x512 .bf16) (v179 : IVec S2048x16 32), BitVec 32) → sProp 𝕄} :
    iprop(vals c w xb)
      ⊢ iprop(((vals c w xb) -∗ Q (⟨k0_pay8 v141 w xb, k0_pay9 v2 w xb, k0_pay10 v2 w xb, iota .tc S2048x16 32 [1] iota_S2048x16_d1_w32, 4#32⟩)) -∗ wp frame (wpE (defs₀ (F := F)) 𝒱₀ (c : Thread nD τ) none) Set.univ (run k0_part6 v2 v141) Q) := by
  simp only [run, k0_part6_eq_skeleton]; unfold k0_part6_skel
  simp only [Prog.lift, Prog.bind_op, Prog.bind_ret, Prog.pure_eq_ret]
  iintro Hv Hk
  iapply (wp_vals c) $$ Hv; iintro Hv
  iapply (wp_vals c) $$ Hv; iintro Hv
  iapply (wp_vals c) $$ Hv; iintro Hv
  rw [wp_ret]; imodintro
  iapply Hk
  iexact Hv

/-- The product with the device's own experts, and the first arrival. -/
theorem part7 (v2 v4 : BitVec 32) (v150 v164 v178 : FVec F S2048x512 .bf16) (v179 : IVec S2048x16 32) (c4 : BitVec 32) {w : Vec F S2048x16 .f32} {xb : Vec F S2048x512 .bf16} {o : Vec F S2048x1024 .f32} {f s r z : List (Fin 16)} {q : PosShare TreeShare} {Q : PUnit → sProp 𝕄} :
    iprop(ctx W K ∗ vals c w xb ∗ piece W c slot0 q ∗ hold c cc0_stg4_0 o ∗ st W c [8, 9, 10, 11, 14, 15, 12, 13] f s (0 :: r) z)
      ⊢ iprop(((vals c w xb ∗ piece W c slot0 q ∗ hold c cc0_stg4_0 (k0_pay11 v2 v150 v164 v178 v179 c4 w xb (cread W c ![0, 0, 0, 0] S1x4x512x1024.size inb_S4x4x512x1024_S1x4x512x1024_0_0_0_0) o) ∗ piece W c (dSet 0) fullShare ∗ st W c [8, 9, 10, 11, 14, 15, 12, 13] f s r (0 :: z)) -∗ Q (⟨⟩)) -∗ wp frame (wpE (defs₀ (F := F)) 𝒱₀ (c : Thread nD τ) none) Set.univ (run k0_part7 v2 v4 v150 v164 v178 v179 c4) Q) := by
  simp only [run, k0_part7_eq_skeleton]; unfold k0_part7_skel
  simp only [Prog.lift, Prog.bind_op, Prog.bind_ret, Prog.pure_eq_ret]
  iintro ⟨#HC, Hv, Hp, Ho, Hst⟩ Hk
  iapply (wp_vals c) $$ Hv; iintro Hv
  iapply (wp_cread W c (Finset.Subset.refl _)) $$ Hp; iintro Hp
  iapply (wp_sum c) $$ Ho; iintro Ho
  iapply (wp_resum c) $$ Ho; iintro Ho
  iapply (wp_arrive W K c 0 (l := [8, 9, 10, 11, 14, 15, 12, 13]) rfl (by decide) rfl rfl rfl) $$ [Hst]
  · isplitr; · iexact HC
    iexact Hst
  iintro ⟨H0, Hst⟩
  rw [wp_ret]; imodintro
  iapply Hk
  isplitl [Hv]; · iexact Hv
  isplitl [Hp]; · iexact Hp
  isplitl [Ho]; · iexact Ho
  isplitl [H0]; · iexact H0
  iexact Hst

/-- Two halves of the first arrival forwarded. -/
theorem part8 (v4 v6 : BitVec 32) {l f s r z : List (Fin 16)} {Q : PUnit → sProp 𝕄} :
    iprop(ctx W K ∗ src W c 8 ∗ src W c 9 ∗ st W c (8 :: 9 :: l) f s r z)
      ⊢ iprop(((st W c l (f ++ [8] ++ [9]) s r z) -∗ Q (⟨⟩)) -∗ wp frame (wpE (defs₀ (F := F)) 𝒱₀ (c : Thread nD τ) none) Set.univ (run k0_part8 c v4 v6) Q) := by
  simp only [run, k0_part8_eq_skeleton]; unfold k0_part8_skel
  simp only [Prog.lift, Prog.bind_op, Prog.bind_ret, Prog.pure_eq_ret]
  iintro ⟨#HC, H8, H9, Hst⟩ Hk
  iapply (wp_start W K c 8 (dev11 c) rfl rfl rfl rfl rfl rfl) $$ [H8 Hst]
  · isplitr; · iexact HC
    isplitl [H8] <;> iassumption
  iintro Hst
  iapply (wp_start W K c 9 (dev12 c) rfl rfl rfl rfl rfl rfl) $$ [H9 Hst]
  · isplitr; · iexact HC
    isplitl [H9] <;> iassumption
  iintro Hst
  rw [wp_ret]; imodintro
  iapply Hk
  iexact Hst

/-- The second arrival, and two halves of it forwarded. -/
theorem part9 (v6 : BitVec 32) {f s r z : List (Fin 16)} {Q : BitVec 32 → sProp 𝕄} :
    iprop(ctx W K ∗ st W c [10, 11, 14, 15, 12, 13] f s (1 :: r) z)
      ⊢ iprop(((piece W c (dSet 1) fullShare.right ∗ st W c [14, 15, 12, 13] (f ++ [10] ++ [11]) s r (1 :: z)) -∗ Q (1#32)) -∗ wp frame (wpE (defs₀ (F := F)) 𝒱₀ (c : Thread nD τ) none) Set.univ (run k0_part9 c v6) Q) := by
  simp only [run, k0_part9_eq_skeleton]; unfold k0_part9_skel
  simp only [Prog.lift, Prog.bind_op, Prog.bind_ret, Prog.pure_eq_ret]
  iintro ⟨#HC, Hst⟩ Hk
  iapply (wp_arrive W K c 1 (l := [10, 11, 14, 15, 12, 13]) rfl (by decide) rfl rfl rfl) $$ [Hst]
  · isplitr; · iexact HC
    iexact Hst
  iintro ⟨H1, Hst⟩
  icases (feed W c (n := 1) (m := 10) (m' := 11) (by decide)).1 $$ H1 with ⟨⟨H10, H11⟩, H1⟩
  iapply (wp_start W K c 10 (dev13 c) rfl rfl rfl rfl rfl rfl) $$ [H10 Hst]
  · isplitr; · iexact HC
    isplitl [H10] <;> iassumption
  iintro Hst
  iapply (wp_start W K c 11 (dev14 c) rfl rfl rfl rfl rfl rfl) $$ [H11 Hst]
  · isplitr; · iexact HC
    isplitl [H11] <;> iassumption
  iintro Hst
  rw [wp_ret]; imodintro
  iapply Hk
  isplitl [H1]; · iexact H1
  iexact Hst

/-- The third arrival, and two halves of it forwarded. -/
theorem part10 (v4 v6 c1 : BitVec 32) {f s r z : List (Fin 16)} {Q : PUnit → sProp 𝕄} :
    iprop(ctx W K ∗ st W c [14, 15, 12, 13] f s (7 :: r) z)
      ⊢ iprop(((piece W c (dSet 7) fullShare.right ∗ st W c [12, 13] (f ++ [14] ++ [15]) s r (7 :: z)) -∗ Q (⟨⟩)) -∗ wp frame (wpE (defs₀ (F := F)) 𝒱₀ (c : Thread nD τ) none) Set.univ (run k0_part10 c v4 v6 c1) Q) := by
  simp only [run, k0_part10_eq_skeleton]; unfold k0_part10_skel
  simp only [Prog.lift, Prog.bind_op, Prog.bind_ret, Prog.pure_eq_ret]
  iintro ⟨#HC, Hst⟩ Hk
  iapply (wp_arrive W K c 7 (l := [14, 15, 12, 13]) rfl (by decide) rfl rfl rfl) $$ [Hst]
  · isplitr; · iexact HC
    iexact Hst
  iintro ⟨H7, Hst⟩
  icases (feed W c (n := 7) (m := 14) (m' := 15) (by decide)).1 $$ H7 with ⟨⟨H14, H15⟩, H7⟩
  iapply (wp_start W K c 14 (dev15 c) rfl rfl rfl rfl rfl rfl) $$ [H14 Hst]
  · isplitr; · iexact HC
    isplitl [H14] <;> iassumption
  iintro Hst
  iapply (wp_start W K c 15 (dev16 c) rfl rfl rfl rfl rfl rfl) $$ [H15 Hst]
  · isplitr; · iexact HC
    isplitl [H15] <;> iassumption
  iintro Hst
  rw [wp_ret]; imodintro
  iapply Hk
  isplitl [H7]; · iexact H7
  iexact Hst

/-- The fourth arrival, and its first half forwarded. -/
theorem part11 (v4 v6 : BitVec 32) {f s r z : List (Fin 16)} {Q : PUnit → sProp 𝕄} :
    iprop(ctx W K ∗ st W c [12, 13] f s (6 :: r) z)
      ⊢ iprop(((src W c 13 ∗ piece W c (dSet 6) fullShare.right ∗ st W c [13] (f ++ [12]) s r (6 :: z)) -∗ Q (⟨⟩)) -∗ wp frame (wpE (defs₀ (F := F)) 𝒱₀ (c : Thread nD τ) none) Set.univ (run k0_part11 c v4 v6) Q) := by
  simp only [run, k0_part11_eq_skeleton]; unfold k0_part11_skel
  simp only [Prog.lift, Prog.bind_op, Prog.bind_ret, Prog.pure_eq_ret]
  iintro ⟨#HC, Hst⟩ Hk
  iapply (wp_arrive W K c 6 (l := [12, 13]) rfl (by decide) rfl rfl rfl) $$ [Hst]
  · isplitr; · iexact HC
    iexact Hst
  iintro ⟨H6, Hst⟩
  icases (feed W c (n := 6) (m := 12) (m' := 13) (by decide)).1 $$ H6 with ⟨⟨H12, H13⟩, H6⟩
  iapply (wp_start W K c 12 (dev17 c) rfl rfl rfl rfl rfl rfl) $$ [H12 Hst]
  · isplitr; · iexact HC
    isplitl [H12] <;> iassumption
  iintro Hst
  rw [wp_ret]; imodintro
  iapply Hk
  isplitl [H13]; · iexact H13
  isplitl [H6]; · iexact H6
  iexact Hst

/-- Its second half forwarded, and the tokens scaled for the left neighbour's first two experts. -/
theorem part12 (v2 v4 : BitVec 32) {w : Vec F S2048x16 .f32} {xb : Vec F S2048x512 .bf16} {l f s r z : List (Fin 16)} {Q : (Σ' (v315 : BitVec 32), FVec F S2048x1024 .bf16) → sProp 𝕄} :
    iprop(ctx W K ∗ vals c w xb ∗ src W c 13 ∗ st W c (13 :: l) f s r z)
      ⊢ iprop(((vals c w xb ∗ st W c l (f ++ [13]) s r z) -∗ Q (⟨Scalar.remsi (Scalar.addi v2 2#32) 4#32, k0_pay12 v4 w xb w xb⟩)) -∗ wp frame (wpE (defs₀ (F := F)) 𝒱₀ (c : Thread nD τ) none) Set.univ (run k0_part12 c v2 v4) Q) := by
  simp only [run, k0_part12_eq_skeleton]; unfold k0_part12_skel
  simp only [Prog.lift, Prog.bind_op, Prog.bind_ret, Prog.pure_eq_ret]
  iintro ⟨#HC, Hv, H13, Hst⟩ Hk
  iapply (wp_start W K c 13 (dev18 c) rfl rfl rfl rfl rfl rfl) $$ [H13 Hst]
  · isplitr; · iexact HC
    isplitl [H13] <;> iassumption
  iintro Hst
  iapply (wp_vals c) $$ Hv; iintro Hv
  iapply (wp_vals c) $$ Hv; iintro Hv
  rw [wp_ret]; imodintro
  iapply Hk
  isplitl [Hv]; · iexact Hv
  iexact Hst

end Cert.KernelIdeal.Moe

end
-- ==== Proof.Parts2.lean ====
/-
The kernel's second half, part by part: the products with the experts that have arrived, and the waits for the copies sent.
-/
module

public import proofs.«01_k».proof.Proof.Parts1

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Vec F S4x512x1024 .bf16) (K : Dev nD × Fin 33 → ℕ) (c : Dev nD)

/-- The left neighbour's first two experts added, and the tokens scaled for the right neighbour's last two. -/
theorem part13 (v6 : BitVec 32) (v344 : FVec F S2048x1024 .bf16) {w : Vec F S2048x16 .f32} {xb : Vec F S2048x512 .bf16} {o : Vec F S2048x1024 .f32} {q : PosShare TreeShare} {Q : FVec F S2048x1024 .bf16 → sProp 𝕄} :
    iprop(vals c w xb ∗ piece W c (box ![1, 0, 0, 0] ![1, 2, 512, 1024]) q ∗ hold c cc0_stg4_0 o)
      ⊢ iprop(((vals c w xb ∗ piece W c (box ![1, 0, 0, 0] ![1, 2, 512, 1024]) q ∗ hold c cc0_stg4_0 (k0_pay13 v344 (cread W c ![1, 0, 0, 0] S1x2x512x1024.size inb_S4x4x512x1024_S1x2x512x1024_1_0_0_0) o)) -∗ Q (k0_pay14 v6 w xb w xb)) -∗ wp frame (wpE (defs₀ (F := F)) 𝒱₀ (c : Thread nD τ) none) Set.univ (run k0_part13 v6 v344) Q) := by
  simp only [run, k0_part13_eq_skeleton]; unfold k0_part13_skel
  simp only [Prog.lift, Prog.bind_op, Prog.bind_ret, Prog.pure_eq_ret]
  iintro ⟨Hv, Hp, Ho⟩ Hk
  iapply (wp_cread W c (Finset.Subset.refl _)) $$ Hp; iintro Hp
  iapply (wp_sum c) $$ Ho; iintro Ho
  iapply (wp_resum c) $$ Ho; iintro Ho
  iapply (wp_vals c) $$ Hv; iintro Hv
  iapply (wp_vals c) $$ Hv; iintro Hv
  rw [wp_ret]; imodintro
  iapply Hk
  isplitl [Hv]; · iexact Hv
  isplitl [Hp]; · iexact Hp
  iexact Ho

/-- The right neighbour's last two experts added, and two more arrivals. -/
theorem part14 (v4 : BitVec 32) (v381 : FVec F S2048x1024 .bf16) {o : Vec F S2048x1024 .f32} {f s r z : List (Fin 16)} {q : PosShare TreeShare} {Q : IVec S2048x16 32 → sProp 𝕄} :
    iprop(ctx W K ∗ piece W c (box ![2, 2, 0, 0] ![1, 2, 512, 1024]) q ∗ hold c cc0_stg4_0 o ∗ st W c [] f s (2 :: 3 :: r) z)
      ⊢ iprop(((piece W c (box ![2, 2, 0, 0] ![1, 2, 512, 1024]) q ∗ hold c cc0_stg4_0 (k0_pay15 v381 (cread W c ![2, 2, 0, 0] S1x2x512x1024.size inb_S4x4x512x1024_S1x2x512x1024_2_2_0_0) o) ∗ piece W c (dSet 2) fullShare ∗ piece W c (dSet 3) fullShare ∗ st W c [] f s r (3 :: 2 :: z)) -∗ Q (iota .tc S2048x16 32 [1] iota_S2048x16_d1_w32)) -∗ wp frame (wpE (defs₀ (F := F)) 𝒱₀ (c : Thread nD τ) none) Set.univ (run k0_part14 v4 v381) Q) := by
  simp only [run, k0_part14_eq_skeleton]; unfold k0_part14_skel
  simp only [Prog.lift, Prog.bind_op, Prog.bind_ret, Prog.pure_eq_ret]
  iintro ⟨#HC, Hp, Ho, Hst⟩ Hk
  iapply (wp_cread W c (Finset.Subset.refl _)) $$ Hp; iintro Hp
  iapply (wp_sum c) $$ Ho; iintro Ho
  iapply (wp_resum c) $$ Ho; iintro Ho
  iapply (wp_arrive W K c 2 (l := []) rfl (by decide) rfl rfl rfl) $$ [Hst]
  · isplitr; · iexact HC
    iexact Hst
  iintro ⟨H2, Hst⟩
  iapply (wp_arrive W K c 3 (l := []) rfl (by decide) rfl rfl rfl) $$ [Hst]
  · isplitr; · iexact HC
    iexact Hst
  iintro ⟨H3, Hst⟩
  rw [wp_ret]; imodintro
  iapply Hk
  isplitl [Hp]; · iexact Hp
  isplitl [Ho]; · iexact Ho
  isplitl [H2]; · iexact H2
  isplitl [H3]; · iexact H3
  iexact Hst

/-- The sum with the left neighbour's last two experts. -/
theorem part15 (v4 : BitVec 32) (v406 : IVec S2048x16 32) {w : Vec F S2048x16 .f32} {xb : Vec F S2048x512 .bf16} {o : Vec F S2048x1024 .f32} {q : PosShare TreeShare} {Q : FVec F S2048x1024 .f32 → sProp 𝕄} :
    iprop(vals c w xb ∗ piece W c (box ![1, 2, 0, 0] ![1, 2, 512, 1024]) q ∗ hold c cc0_stg4_0 o)
      ⊢ iprop(((vals c w xb ∗ piece W c (box ![1, 2, 0, 0] ![1, 2, 512, 1024]) q ∗ hold c cc0_stg4_0 o) -∗ Q (k0_pay16 v4 v406 w xb w xb (cread W c ![1, 2, 0, 0] S1x2x512x1024.size inb_S4x4x512x1024_S1x2x512x1024_1_2_0_0) o)) -∗ wp frame (wpE (defs₀ (F := F)) 𝒱₀ (c : Thread nD τ) none) Set.univ (run k0_part15 v4 v406) Q) := by
  simp only [run, k0_part15_eq_skeleton]; unfold k0_part15_skel
  simp only [Prog.lift, Prog.bind_op, Prog.bind_ret, Prog.pure_eq_ret]
  iintro ⟨Hv, Hp, Ho⟩ Hk
  iapply (wp_vals c) $$ Hv; iintro Hv
  iapply (wp_vals c) $$ Hv; iintro Hv
  iapply (wp_cread W c (Finset.Subset.refl _)) $$ Hp; iintro Hp
  iapply (wp_sum c) $$ Ho; iintro Ho
  rw [wp_ret]; imodintro
  iapply Hk
  isplitl [Hv]; · iexact Hv
  isplitl [Hp]; · iexact Hp
  iexact Ho

/-- That sum stored, two more arrivals, and the weight of the right neighbour's first expert. -/
theorem part16 (v6 : BitVec 32) (v441 : FVec F S2048x1024 .f32) {w : Vec F S2048x16 .f32} {xb : Vec F S2048x512 .bf16} {o : Vec F S2048x1024 .f32} {f s r z : List (Fin 16)} {Q : FVec F S2048x1 .f32 → sProp 𝕄} :
    iprop(ctx W K ∗ vals c w xb ∗ hold c cc0_stg4_0 o ∗ st W c [] f s (5 :: 4 :: r) z)
      ⊢ iprop(((vals c w xb ∗ hold c cc0_stg4_0 v441 ∗ piece W c (dSet 5) fullShare ∗ piece W c (dSet 4) fullShare ∗ st W c [] f s r (4 :: 5 :: z)) -∗ Q (k0_pay17 v6 w)) -∗ wp frame (wpE (defs₀ (F := F)) 𝒱₀ (c : Thread nD τ) none) Set.univ (run k0_part16 v6 v441) Q) := by
  simp only [run, k0_part16_eq_skeleton]; unfold k0_part16_skel
  simp only [Prog.lift, Prog.bind_op, Prog.bind_ret, Prog.pure_eq_ret]
  iintro ⟨#HC, Hv, Ho, Hst⟩ Hk
  iapply (wp_resum c) $$ Ho; iintro Ho
  iapply (wp_arrive W K c 5 (l := []) rfl (by decide) rfl rfl rfl) $$ [Hst]
  · isplitr; · iexact HC
    iexact Hst
  iintro ⟨H5, Hst⟩
  iapply (wp_arrive W K c 4 (l := []) rfl (by decide) rfl rfl rfl) $$ [Hst]
  · isplitr; · iexact HC
    iexact Hst
  iintro ⟨H4, Hst⟩
  unfold vals
  icases Hv with ⟨Hw, Hx⟩
  iapply (wp_get c (Memref.whole cc0_scratch1) (Memref.readAt_unit_zero (Elt F) cc0_scratch1 hz2 _ _)) $$ Hw; iintro Hw
  rw [wp_ret]; imodintro
  iapply Hk
  isplitl [Hw Hx]; · isplitl [Hw] <;> iassumption
  isplitl [Ho]; · iexact Ho
  isplitl [H5]; · iexact H5
  isplitl [H4]; · iexact H4
  iexact Hst

/-- The right neighbour's first two experts added. -/
theorem part17 (v4 v6 : BitVec 32) (v468 : FVec F S2048x1 .f32) {w : Vec F S2048x16 .f32} {xb : Vec F S2048x512 .bf16} {o : Vec F S2048x1024 .f32} {q : PosShare TreeShare} {Q : PUnit → sProp 𝕄} :
    iprop(vals c w xb ∗ piece W c (box ![2, 0, 0, 0] ![1, 2, 512, 1024]) q ∗ hold c cc0_stg4_0 o)
      ⊢ iprop(((vals c w xb ∗ piece W c (box ![2, 0, 0, 0] ![1, 2, 512, 1024]) q ∗ hold c cc0_stg4_0 (k0_pay18 v6 v468 xb w xb (cread W c ![2, 0, 0, 0] S1x2x512x1024.size inb_S4x4x512x1024_S1x2x512x1024_2_0_0_0) o)) -∗ Q (⟨⟩)) -∗ wp frame (wpE (defs₀ (F := F)) 𝒱₀ (c : Thread nD τ) none) Set.univ (run k0_part17 v4 v6 v468) Q) := by
  simp only [run, k0_part17_eq_skeleton]; unfold k0_part17_skel
  simp only [Prog.lift, Prog.bind_op, Prog.bind_ret, Prog.pure_eq_ret]
  iintro ⟨Hv, Hp, Ho⟩ Hk
  unfold vals
  icases Hv with ⟨Hw, Hx⟩
  iapply (wp_get c (Memref.whole cc0_scratch2) (Memref.readAt_unit_zero (Elt F) cc0_scratch2 hz2 _ _)) $$ Hx; iintro Hx
  ihave Hv : vals c w xb $$ [Hw Hx]
  · unfold vals; isplitl [Hw] <;> iassumption
  iapply (wp_vals c) $$ Hv; iintro Hv
  iapply (wp_cread W c (Finset.Subset.refl _)) $$ Hp; iintro Hp
  iapply (wp_sum c) $$ Ho; iintro Ho
  iapply (wp_resum c) $$ Ho; iintro Ho
  rw [wp_ret]; imodintro
  iapply Hk
  isplitl [Hv]; · unfold vals; iexact Hv
  isplitl [Hp]; · iexact Hp
  iexact Ho

/-- One quarter of the opposite device's experts: its arrival, and its share of the sum added. -/
theorem wp_quarter (n : Fin 16) {o : Fin 4 → ℕ} {h} (hS : box o S1x1x256x1024.size ⊆ dSet n) {w : Vec F S2048x16 .f32} {xb : Vec F S2048x512 .bf16} {a : Vec F S2048x1024 .f32}
    {P : Vec F S2048x16 .f32 → Vec F S2048x512 .bf16 → Vec F S2048x1024 .f32 → Vec F S1x1x256x1024 .bf16 → Vec F S2048x1024 .f32}
    {f s r z : List (Fin 16)} {q : DmaSem sig} (hq : q = rcvS n)
    {sp' : Space} {s₂ : Shape} {e₂ : EltTy} {src : Memref sig .tc sp' s₂ e₂} {o' sz : Fin 4 → ℕ} {h0 hr0 t0 hq0} (ho : o' = dOff n) (hsz : sz = bsz n)
    (hN : (blk o' sz h0 hr0 t0 hq0).view.dmaCredit = amt n) {hsrc : src.view.WordExact} {hdst : (blk o' sz h0 hr0 t0 hq0).view.WordExact} {h1 hl1 h2 hl2 h3 hl3 hl4 h5 hl5 h6 hx hm}
    {α : Type} {Q : α → sProp 𝕄} {k : PUnit → Prog (TpuEff nD τ sig (Elt F) Λ₀ .tc) α} :
    iprop(ctx W K ∗ vals c w xb ∗ hold c cc0_stg4_0 a ∗ st W c [] f s (n :: r) z)
      ⊢ iprop(((vals c w xb ∗ hold c cc0_stg4_0 (P w xb a (cread W c o S1x1x256x1024.size h)) ∗ piece W c (dSet n) fullShare ∗ st W c [] f s r (n :: z)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src (blk o' sz h0 hr0 t0 hq0) hsrc hdst) fun _ =>
          .op (.load (Memref.whole cc0_scratch1) (Rect.unit (s := S2048x16) ![0, 0] S2048x16.size h1).toLoadRect hl1) fun v1 =>
          .op (.load (Memref.whole cc0_scratch2) (Rect.unit (s := S2048x512) ![0, 0] S2048x512.size h2).toLoadRect hl2) fun v2 =>
          .op (.load (Memref.whole cc0_stg4_0) (Rect.unit (s := S2048x1024) ![0, 0] S2048x1024.size h3).toLoadRect hl3) fun v3 =>
          .op (.load cM (Rect.unit (s := S4x4x512x1024) o S1x1x256x1024.size h).toLoadRect hl4) fun v4 =>
          .op (.load (Memref.whole cc0_stg4_0) (Rect.unit (s := S2048x1024) ![0, 0] S2048x1024.size h5).toLoadRect hl5) fun _ =>
          .op (.store (Memref.whole cc0_stg4_0) (Rect.unit (s := S2048x1024) ![0, 0] S2048x1024.size h6) (P v1 v2 v3 v4) Finset.univ hx hm) k) Q) := by
  iintro ⟨#HC, Hv, Ho, Hst⟩ Hk
  iapply (wp_arrive W K c n (l := []) hq (by simp) ho hsz hN) $$ [Hst]
  · isplitr; · iexact HC
    iexact Hst
  iintro ⟨Hp, Hst⟩
  iapply (wp_vals c) $$ Hv; iintro Hv
  iapply (wp_sum c) $$ Ho; iintro Ho
  iapply (wp_cread W c hS) $$ Hp; iintro Hp
  iapply (wp_resum c) $$ Ho; iintro Ho
  iapply Hk
  isplitl [Hv]; · iexact Hv
  isplitl [Ho]; · iexact Ho
  isplitl [Hp] <;> iassumption

/-- Copy 8's arrival and its share of the sum. -/
theorem part18 (v4 v315 : BitVec 32) {w : Vec F S2048x16 .f32} {xb : Vec F S2048x512 .bf16} {o : Vec F S2048x1024 .f32} {f s r z : List (Fin 16)} {Q : PUnit → sProp 𝕄} :
    iprop(ctx W K ∗ vals c w xb ∗ hold c cc0_stg4_0 o ∗ st W c [] f s (8 :: r) z)
      ⊢ iprop(((vals c w xb ∗ hold c cc0_stg4_0 (k0_pay19 v315 w xb o (cread W c ![3, 0, 0, 0] S1x1x256x1024.size inb_S4x4x512x1024_S1x1x256x1024_3_0_0_0)) ∗ piece W c (dSet 8) fullShare ∗ st W c [] f s r (8 :: z)) -∗ Q (⟨⟩)) -∗ wp frame (wpE (defs₀ (F := F)) 𝒱₀ (c : Thread nD τ) none) Set.univ (run k0_part18 v4 v315) Q) := by
  simp only [run, k0_part18_eq_skeleton]; unfold k0_part18_skel
  simp only [Prog.lift, Prog.bind_op, Prog.bind_ret, Prog.pure_eq_ret]
  iintro ⟨#HC, Hv, Ho, Hst⟩ Hk
  iapply (wp_quarter W K c 8 (P := k0_pay19 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 14's arrival and its share of the sum. -/
theorem part19 (v4 v315 : BitVec 32) {w : Vec F S2048x16 .f32} {xb : Vec F S2048x512 .bf16} {o : Vec F S2048x1024 .f32} {f s r z : List (Fin 16)} {Q : PUnit → sProp 𝕄} :
    iprop(ctx W K ∗ vals c w xb ∗ hold c cc0_stg4_0 o ∗ st W c [] f s (14 :: r) z)
      ⊢ iprop(((vals c w xb ∗ hold c cc0_stg4_0 (k0_pay20 v315 w xb o (cread W c ![3, 3, 0, 0] S1x1x256x1024.size inb_S4x4x512x1024_S1x1x256x1024_3_3_0_0)) ∗ piece W c (dSet 14) fullShare ∗ st W c [] f s r (14 :: z)) -∗ Q (⟨⟩)) -∗ wp frame (wpE (defs₀ (F := F)) 𝒱₀ (c : Thread nD τ) none) Set.univ (run k0_part19 v4 v315) Q) := by
  simp only [run, k0_part19_eq_skeleton]; unfold k0_part19_skel
  simp only [Prog.lift, Prog.bind_op, Prog.bind_ret, Prog.pure_eq_ret]
  iintro ⟨#HC, Hv, Ho, Hst⟩ Hk
  iapply (wp_quarter W K c 14 (P := k0_pay20 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 9's arrival and its share of the sum. -/
theorem part20 (v4 v315 : BitVec 32) {w : Vec F S2048x16 .f32} {xb : Vec F S2048x512 .bf16} {o : Vec F S2048x1024 .f32} {f s r z : List (Fin 16)} {Q : PUnit → sProp 𝕄} :
    iprop(ctx W K ∗ vals c w xb ∗ hold c cc0_stg4_0 o ∗ st W c [] f s (9 :: r) z)
      ⊢ iprop(((vals c w xb ∗ hold c cc0_stg4_0 (k0_pay21 v315 w xb o (cread W c ![3, 0, 256, 0] S1x1x256x1024.size inb_S4x4x512x1024_S1x1x256x1024_3_0_256_0)) ∗ piece W c (dSet 9) fullShare ∗ st W c [] f s r (9 :: z)) -∗ Q (⟨⟩)) -∗ wp frame (wpE (defs₀ (F := F)) 𝒱₀ (c : Thread nD τ) none) Set.univ (run k0_part20 v4 v315) Q) := by
  simp only [run, k0_part20_eq_skeleton]; unfold k0_part20_skel
  simp only [Prog.lift, Prog.bind_op, Prog.bind_ret, Prog.pure_eq_ret]
  iintro ⟨#HC, Hv, Ho, Hst⟩ Hk
  iapply (wp_quarter W K c 9 (P := k0_pay21 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 15's arrival and its share of the sum. -/
theorem part21 (v4 v315 : BitVec 32) {w : Vec F S2048x16 .f32} {xb : Vec F S2048x512 .bf16} {o : Vec F S2048x1024 .f32} {f s r z : List (Fin 16)} {Q : (Σ' (v616 : BitVec 32), BitVec 32) → sProp 𝕄} :
    iprop(ctx W K ∗ vals c w xb ∗ hold c cc0_stg4_0 o ∗ st W c [] f s (15 :: r) z)
      ⊢ iprop(((vals c w xb ∗ hold c cc0_stg4_0 (k0_pay22 v315 w xb o (cread W c ![3, 3, 256, 0] S1x1x256x1024.size inb_S4x4x512x1024_S1x1x256x1024_3_3_256_0)) ∗ piece W c (dSet 15) fullShare ∗ st W c [] f s r (15 :: z)) -∗ Q (⟨Scalar.muli v4 1#32, 0#32⟩)) -∗ wp frame (wpE (defs₀ (F := F)) 𝒱₀ (c : Thread nD τ) none) Set.univ (run k0_part21 v4 v315) Q) := by
  simp only [run, k0_part21_eq_skeleton]; unfold k0_part21_skel
  simp only [Prog.lift, Prog.bind_op, Prog.bind_ret, Prog.pure_eq_ret]
  iintro ⟨#HC, Hv, Ho, Hst⟩ Hk
  iapply (wp_quarter W K c 15 (P := k0_pay22 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 10's arrival and its share of the sum. -/
theorem part22 (v4 v315 v616 c0 : BitVec 32) {w : Vec F S2048x16 .f32} {xb : Vec F S2048x512 .bf16} {o : Vec F S2048x1024 .f32} {f s r z : List (Fin 16)} {Q : BitVec 32 → sProp 𝕄} :
    iprop(ctx W K ∗ vals c w xb ∗ hold c cc0_stg4_0 o ∗ st W c [] f s (10 :: r) z)
      ⊢ iprop(((vals c w xb ∗ hold c cc0_stg4_0 (k0_pay23 v315 w xb o (cread W c ![3, 1, 0, 0] S1x1x256x1024.size inb_S4x4x512x1024_S1x1x256x1024_3_1_0_0)) ∗ piece W c (dSet 10) fullShare ∗ st W c [] f s r (10 :: z)) -∗ Q (Scalar.muli v4 1#32)) -∗ wp frame (wpE (defs₀ (F := F)) 𝒱₀ (c : Thread nD τ) none) Set.univ (run k0_part22 v4 v315 v616 c0) Q) := by
  simp only [run, k0_part22_eq_skeleton]; unfold k0_part22_skel
  simp only [Prog.lift, Prog.bind_op, Prog.bind_ret, Prog.pure_eq_ret]
  iintro ⟨#HC, Hv, Ho, Hst⟩ Hk
  iapply (wp_quarter W K c 10 (P := k0_pay23 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 12's arrival and its share of the sum. -/
theorem part23 (v315 v646 : BitVec 32) {w : Vec F S2048x16 .f32} {xb : Vec F S2048x512 .bf16} {o : Vec F S2048x1024 .f32} {f s r z : List (Fin 16)} {Q : BitVec 32 → sProp 𝕄} :
    iprop(ctx W K ∗ vals c w xb ∗ hold c cc0_stg4_0 o ∗ st W c [] f s (12 :: r) z)
      ⊢ iprop(((vals c w xb ∗ hold c cc0_stg4_0 (k0_pay24 v315 w xb o (cread W c ![3, 2, 0, 0] S1x1x256x1024.size inb_S4x4x512x1024_S1x1x256x1024_3_2_0_0)) ∗ piece W c (dSet 12) fullShare ∗ st W c [] f s r (12 :: z)) -∗ Q (1#32)) -∗ wp frame (wpE (defs₀ (F := F)) 𝒱₀ (c : Thread nD τ) none) Set.univ (run k0_part23 v315 v646) Q) := by
  simp only [run, k0_part23_eq_skeleton]; unfold k0_part23_skel
  simp only [Prog.lift, Prog.bind_op, Prog.bind_ret, Prog.pure_eq_ret]
  iintro ⟨#HC, Hv, Ho, Hst⟩ Hk
  iapply (wp_quarter W K c 12 (P := k0_pay24 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 11's arrival and its share of the sum. -/
theorem part24 (v4 v315 c1 : BitVec 32) {w : Vec F S2048x16 .f32} {xb : Vec F S2048x512 .bf16} {o : Vec F S2048x1024 .f32} {f s r z : List (Fin 16)} {Q : PUnit → sProp 𝕄} :
    iprop(ctx W K ∗ vals c w xb ∗ hold c cc0_stg4_0 o ∗ st W c [] f s (11 :: r) z)
      ⊢ iprop(((vals c w xb ∗ hold c cc0_stg4_0 (k0_pay25 v315 w xb o (cread W c ![3, 1, 256, 0] S1x1x256x1024.size inb_S4x4x512x1024_S1x1x256x1024_3_1_256_0)) ∗ piece W c (dSet 11) fullShare ∗ st W c [] f s r (11 :: z)) -∗ Q (⟨⟩)) -∗ wp frame (wpE (defs₀ (F := F)) 𝒱₀ (c : Thread nD τ) none) Set.univ (run k0_part24 v4 v315 c1) Q) := by
  simp only [run, k0_part24_eq_skeleton]; unfold k0_part24_skel
  simp only [Prog.lift, Prog.bind_op, Prog.bind_ret, Prog.pure_eq_ret]
  iintro ⟨#HC, Hv, Ho, Hst⟩ Hk
  iapply (wp_quarter W K c 11 (P := k0_pay25 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Copy 13's arrival and its share of the sum. -/
theorem part25 (v4 v315 : BitVec 32) {w : Vec F S2048x16 .f32} {xb : Vec F S2048x512 .bf16} {o : Vec F S2048x1024 .f32} {f s r z : List (Fin 16)} {Q : PUnit → sProp 𝕄} :
    iprop(ctx W K ∗ vals c w xb ∗ hold c cc0_stg4_0 o ∗ st W c [] f s (13 :: r) z)
      ⊢ iprop(((vals c w xb ∗ hold c cc0_stg4_0 (k0_pay26 v315 w xb o (cread W c ![3, 2, 256, 0] S1x1x256x1024.size inb_S4x4x512x1024_S1x1x256x1024_3_2_256_0)) ∗ piece W c (dSet 13) fullShare ∗ st W c [] f s r (13 :: z)) -∗ Q (⟨⟩)) -∗ wp frame (wpE (defs₀ (F := F)) 𝒱₀ (c : Thread nD τ) none) Set.univ (run k0_part25 v4 v315) Q) := by
  simp only [run, k0_part25_eq_skeleton]; unfold k0_part25_skel
  simp only [Prog.lift, Prog.bind_op, Prog.bind_ret, Prog.pure_eq_ret]
  iintro ⟨#HC, Hv, Ho, Hst⟩ Hk
  iapply (wp_quarter W K c 13 (P := k0_pay26 v315) (Finset.Subset.refl _) rfl rfl rfl rfl) $$ [Hv Ho Hst]
  · isplitr; · iexact HC
    isplitl [Hv]; · iexact Hv
    isplitl [Ho] <;> iassumption
  iintro Hall
  rw [wp_ret]; imodintro
  iapply Hk
  iexact Hall

/-- Waits for copies the device has sent. -/
theorem part26 {f s r z : List (Fin 16)} {Q : PUnit → sProp 𝕄} :
    iprop(ctx W K ∗ st W c [] (0 :: 1 :: 2 :: f) s r z)
      ⊢ iprop(((st W c [] f (2 :: 1 :: 0 :: s) r z) -∗ Q (⟨⟩)) -∗ wp frame (wpE (defs₀ (F := F)) 𝒱₀ (c : Thread nD τ) none) Set.univ (run k0_part26) Q) := by
  simp only [run, k0_part26_eq_skeleton]; unfold k0_part26_skel
  simp only [Prog.lift, Prog.bind_op, Prog.bind_ret, Prog.pure_eq_ret]
  iintro ⟨#HC, Hst⟩ Hk
  iapply (wp_letgo W K c 0 rfl rfl rfl rfl) $$ [Hst]
  · isplitr; · iexact HC
    iexact Hst
  iintro Hst
  iapply (wp_letgo W K c 1 rfl rfl rfl rfl) $$ [Hst]
  · isplitr; · iexact HC
    iexact Hst
  iintro Hst
  iapply (wp_letgo W K c 2 rfl rfl rfl rfl) $$ [Hst]
  · isplitr; · iexact HC
    iexact Hst
  iintro Hst
  rw [wp_ret]; imodintro
  iapply Hk
  iexact Hst

/-- Waits for copies the device has sent. -/
theorem part27 {f s r z : List (Fin 16)} {Q : PUnit → sProp 𝕄} :
    iprop(ctx W K ∗ st W c [] (3 :: 7 :: 6 :: f) s r z)
      ⊢ iprop(((st W c [] f (6 :: 7 :: 3 :: s) r z) -∗ Q (⟨⟩)) -∗ wp frame (wpE (defs₀ (F := F)) 𝒱₀ (c : Thread nD τ) none) Set.univ (run k0_part27) Q) := by
  simp only [run, k0_part27_eq_skeleton]; unfold k0_part27_skel
  simp only [Prog.lift, Prog.bind_op, Prog.bind_ret, Prog.pure_eq_ret]
  iintro ⟨#HC, Hst⟩ Hk
  iapply (wp_letgo W K c 3 rfl rfl rfl rfl) $$ [Hst]
  · isplitr; · iexact HC
    iexact Hst
  iintro Hst
  iapply (wp_letgo W K c 7 rfl rfl rfl rfl) $$ [Hst]
  · isplitr; · iexact HC
    iexact Hst
  iintro Hst
  iapply (wp_letgo W K c 6 rfl rfl rfl rfl) $$ [Hst]
  · isplitr; · iexact HC
    iexact Hst
  iintro Hst
  rw [wp_ret]; imodintro
  iapply Hk
  iexact Hst

/-- Waits for copies the device has sent. -/
theorem part28 {f s r z : List (Fin 16)} {Q : PUnit → sProp 𝕄} :
    iprop(ctx W K ∗ st W c [] (5 :: 4 :: 8 :: 9 :: f) s r z)
      ⊢ iprop(((st W c [] f (9 :: 8 :: 4 :: 5 :: s) r z) -∗ Q (⟨⟩)) -∗ wp frame (wpE (defs₀ (F := F)) 𝒱₀ (c : Thread nD τ) none) Set.univ (run k0_part28) Q) := by
  simp only [run, k0_part28_eq_skeleton]; unfold k0_part28_skel
  simp only [Prog.lift, Prog.bind_op, Prog.bind_ret, Prog.pure_eq_ret]
  iintro ⟨#HC, Hst⟩ Hk
  iapply (wp_letgo W K c 5 rfl rfl rfl rfl) $$ [Hst]
  · isplitr; · iexact HC
    iexact Hst
  iintro Hst
  iapply (wp_letgo W K c 4 rfl rfl rfl rfl) $$ [Hst]
  · isplitr; · iexact HC
    iexact Hst
  iintro Hst
  iapply (wp_letgo W K c 8 rfl rfl rfl rfl) $$ [Hst]
  · isplitr; · iexact HC
    iexact Hst
  iintro Hst
  iapply (wp_letgo W K c 9 rfl rfl rfl rfl) $$ [Hst]
  · isplitr; · iexact HC
    iexact Hst
  iintro Hst
  rw [wp_ret]; imodintro
  iapply Hk
  iexact Hst

/-- Waits for copies the device has sent. -/
theorem part29 {f s r z : List (Fin 16)} {Q : PUnit → sProp 𝕄} :
    iprop(ctx W K ∗ st W c [] (10 :: 11 :: 14 :: f) s r z)
      ⊢ iprop(((st W c [] f (14 :: 11 :: 10 :: s) r z) -∗ Q (⟨⟩)) -∗ wp frame (wpE (defs₀ (F := F)) 𝒱₀ (c : Thread nD τ) none) Set.univ (run k0_part29) Q) := by
  simp only [run, k0_part29_eq_skeleton]; unfold k0_part29_skel
  simp only [Prog.lift, Prog.bind_op, Prog.bind_ret, Prog.pure_eq_ret]
  iintro ⟨#HC, Hst⟩ Hk
  iapply (wp_letgo W K c 10 rfl rfl rfl rfl) $$ [Hst]
  · isplitr; · iexact HC
    iexact Hst
  iintro Hst
  iapply (wp_letgo W K c 11 rfl rfl rfl rfl) $$ [Hst]
  · isplitr; · iexact HC
    iexact Hst
  iintro Hst
  iapply (wp_letgo W K c 14 rfl rfl rfl rfl) $$ [Hst]
  · isplitr; · iexact HC
    iexact Hst
  iintro Hst
  rw [wp_ret]; imodintro
  iapply Hk
  iexact Hst

end Cert.KernelIdeal.Moe

end
-- ==== Proof.Body.lean ====
/-
The kernel's body, its parts in order: from the buffers as the launch leaves them to the output and the exchange buffer's final
contents, with every semaphore back at zero.
-/
module

public import proofs.«01_k».proof.Proof.Parts2

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Vec F S4x512x1024 .bf16) (K : Dev nD × Fin 33 → ℕ) (c : Dev nD)

/-! ## What the device computes -/

/-- The routing weights of a device's tokens, from the tokens, the routing matrix and the expert numbers. -/
def wgt (X : Vec F S2048x512 .bf16) (R : Vec F S512x16 .bf16) (I : Vec F S2048x2 .i32) : Vec F S2048x16 .f32 :=
  k0_pay4 (k0_pay2 X R) (k0_pay3 X R) (col0 I) (col1 I)

/-- The sum after the device's own experts. -/
def sum1 (w : Vec F S2048x16 .f32) (xb : Vec F S2048x512 .bf16) : Vec F S2048x1024 .f32 :=
  k0_pay11 (w2 c) (k0_pay8 (k0_pay7 (w2 c)) w xb) (k0_pay9 (w2 c) w xb) (k0_pay10 (w2 c) w xb) (iota .tc S2048x16 32 [1] iota_S2048x16_d1_w32) 4#32 w xb
    (cread W c ![0, 0, 0, 0] S1x4x512x1024.size inb_S4x4x512x1024_S1x4x512x1024_0_0_0_0) (k0_pay6 (F := F))
/-- … after the left neighbour's first two, the right neighbour's last two, the left's last two, the right's first two. -/
def sum2 (w : Vec F S2048x16 .f32) (xb : Vec F S2048x512 .bf16) : Vec F S2048x1024 .f32 :=
  k0_pay13 (k0_pay12 (w4 c) w xb w xb) (cread W c ![1, 0, 0, 0] S1x2x512x1024.size inb_S4x4x512x1024_S1x2x512x1024_1_0_0_0) (sum1 W c w xb)
/-- … then after the right neighbour's last two … -/
def sum3 (w : Vec F S2048x16 .f32) (xb : Vec F S2048x512 .bf16) : Vec F S2048x1024 .f32 :=
  k0_pay15 (k0_pay14 (w6 c) w xb w xb) (cread W c ![2, 2, 0, 0] S1x2x512x1024.size inb_S4x4x512x1024_S1x2x512x1024_2_2_0_0) (sum2 W c w xb)
/-- … then after the left neighbour's last two … -/
def sum4 (w : Vec F S2048x16 .f32) (xb : Vec F S2048x512 .bf16) : Vec F S2048x1024 .f32 :=
  k0_pay16 (w4 c) (iota .tc S2048x16 32 [1] iota_S2048x16_d1_w32) w xb w xb
    (cread W c ![1, 2, 0, 0] S1x2x512x1024.size inb_S4x4x512x1024_S1x2x512x1024_1_2_0_0) (sum3 W c w xb)
/-- … then after the right neighbour's first two. -/
def sum5 (w : Vec F S2048x16 .f32) (xb : Vec F S2048x512 .bf16) : Vec F S2048x1024 .f32 :=
  k0_pay18 (w6 c) (k0_pay17 (w6 c) w) xb w xb (cread W c ![2, 0, 0, 0] S1x2x512x1024.size inb_S4x4x512x1024_S1x2x512x1024_2_0_0_0) (sum4 W c w xb)
/-- … and after the first half of the opposite device's first expert, and so on through its eight halves. -/
def sum6 (w : Vec F S2048x16 .f32) (xb : Vec F S2048x512 .bf16) : Vec F S2048x1024 .f32 :=
  k0_pay19 (w8 c) w xb (sum5 W c w xb) (cread W c ![3, 0, 0, 0] S1x1x256x1024.size inb_S4x4x512x1024_S1x1x256x1024_3_0_0_0)
/-- … then after the first half of its last expert … -/
def sum7 (w : Vec F S2048x16 .f32) (xb : Vec F S2048x512 .bf16) : Vec F S2048x1024 .f32 :=
  k0_pay20 (w8 c) w xb (sum6 W c w xb) (cread W c ![3, 3, 0, 0] S1x1x256x1024.size inb_S4x4x512x1024_S1x1x256x1024_3_3_0_0)
/-- … then after the second half of its first … -/
def sum8 (w : Vec F S2048x16 .f32) (xb : Vec F S2048x512 .bf16) : Vec F S2048x1024 .f32 :=
  k0_pay21 (w8 c) w xb (sum7 W c w xb) (cread W c ![3, 0, 256, 0] S1x1x256x1024.size inb_S4x4x512x1024_S1x1x256x1024_3_0_256_0)
/-- … then after the second half of its last … -/
def sum9 (w : Vec F S2048x16 .f32) (xb : Vec F S2048x512 .bf16) : Vec F S2048x1024 .f32 :=
  k0_pay22 (w8 c) w xb (sum8 W c w xb) (cread W c ![3, 3, 256, 0] S1x1x256x1024.size inb_S4x4x512x1024_S1x1x256x1024_3_3_256_0)
/-- … then after the first half of its second … -/
def sum10 (w : Vec F S2048x16 .f32) (xb : Vec F S2048x512 .bf16) : Vec F S2048x1024 .f32 :=
  k0_pay23 (w8 c) w xb (sum9 W c w xb) (cread W c ![3, 1, 0, 0] S1x1x256x1024.size inb_S4x4x512x1024_S1x1x256x1024_3_1_0_0)
/-- … then after the first half of its third … -/
def sum11 (w : Vec F S2048x16 .f32) (xb : Vec F S2048x512 .bf16) : Vec F S2048x1024 .f32 :=
  k0_pay24 (w8 c) w xb (sum10 W c w xb) (cread W c ![3, 2, 0, 0] S1x1x256x1024.size inb_S4x4x512x1024_S1x1x256x1024_3_2_0_0)
/-- … then after the second half of its second … -/
def sum12 (w : Vec F S2048x16 .f32) (xb : Vec F S2048x512 .bf16) : Vec F S2048x1024 .f32 :=
  k0_pay25 (w8 c) w xb (sum11 W c w xb) (cread W c ![3, 1, 256, 0] S1x1x256x1024.size inb_S4x4x512x1024_S1x1x256x1024_3_1_256_0)
/-- … then after the second half of its third: the whole sum. -/
def sum13 (w : Vec F S2048x16 .f32) (xb : Vec F S2048x512 .bf16) : Vec F S2048x1024 .f32 :=
  k0_pay26 (w8 c) w xb (sum12 W c w xb) (cread W c ![3, 2, 256, 0] S1x1x256x1024.size inb_S4x4x512x1024_S1x1x256x1024_3_2_256_0)

/-! ## Start and end -/

/-- Device `c`'s tokens of the protocol before its body. -/
def begun : sProp 𝕄 :=
  iprop(dutyTok ER (barCell (prv c)) 0 true ∗ dutyTok ER (barCell (nxt c)) 0 false ∗ cred (tallyAt (barCell c) () 2) ∗ atPos ER (barCell c) 0 ∅ 0
    ∗ along (rights c) order ∗ along (atS c) order ∗ along (coming c) arrivals)

/-- Its semaphores after it, all at zero. -/
def ended : sProp 𝕄 :=
  iprop(semVal (barCell c) 0 ∗ (bigSep Finset.univ fun n : Fin 16 => semVal (sndCell c n) 0) ∗ bigSep Finset.univ fun n : Fin 16 => semVal (rcvCell c n) 0)

/-- A conjunction along a list, split in two. -/
theorem along_unsep (Φ Ψ : Fin 16 → sProp 𝕄) (l : List (Fin 16)) : along (fun n => iprop(Φ n ∗ Ψ n)) l ⊢ iprop(along Φ l ∗ along Ψ l) := by
  induction l with
  | nil => exact BIClass.emp_sep.2
  | cons n l ih =>
    show iprop((Φ n ∗ Ψ n) ∗ along _ l) ⊢ iprop((Φ n ∗ along Φ l) ∗ (Ψ n ∗ along Ψ l))
    iintro ⟨⟨Ha, Hc⟩, H⟩
    icases ih $$ H with ⟨Hb, Hd⟩
    isplitl [Ha Hb]; · isplitl [Ha] <;> iassumption
    isplitl [Hc] <;> iassumption

/-- What finished copies leave: their send semaphores and their sources. -/
theorem finished (l : List (Fin 16)) : along (zeroS W c) l ⊢ iprop(along (fun n => semVal (sndCell c n) 0) l ∗ along (src W c) l) :=
  along_unsep (fun n => semVal (sndCell c n) 0) (src W c) l

/-- The order in which copies are finished with, last first. -/
abbrev done : List (Fin 16) := [13, 12, 15, 14, 11, 10, 9, 8, 4, 5, 6, 7, 3, 2, 1, 0]
/-- The order in which arrivals were waited for, last first. -/
abbrev came : List (Fin 16) := [13, 11, 12, 10, 15, 9, 14, 8, 4, 5, 3, 2, 6, 7, 1, 0]

/-- All pieces back, the exchange buffer is whole again. -/
theorem rejoin :
    iprop(along (src W c) done ∗ piece W c slot0 fullShare.right.right
      ∗ piece W c (dSet 0) fullShare.right ∗ piece W c (dSet 1) fullShare.right ∗ piece W c (dSet 6) fullShare.right ∗ piece W c (dSet 7) fullShare.right
      ∗ along (fun n => piece W c (dSet n) fullShare) [2, 3, 4, 5, 8, 9, 10, 11, 12, 13, 14, 15])
      ⊢ (cLoc c ↦{fullShare} (commOf W c : Buf (Elt F) (cLoc c)) : sProp 𝕄) := by
  simp only [along]
  iintro ⟨⟨S13, S12, S15, S14, S11, S10, S9, S8, S4, S5, S6, S7, S3, S2, S1, S0, -⟩, HC, R0, R1, R6, R7, P2, P3, P4, P5, P8, P9, P10, P11, P12, P13, P14, P15, -⟩
  iapply (whole_join W c)
  isplitl [S0 S1 S2 S3 S4 S5 S6 S7 HC]
  · iapply (slot0_unshare W c)
    isplitl [S0 S1 S2 S3]
    · isplitl [S0]; · iexact S0
      isplitl [S1]; · iexact S1
      isplitl [S2] <;> iassumption
    isplitr [HC]
    · isplitl [S7]; · iexact S7
      isplitl [S6]; · iexact S6
      isplitl [S5] <;> iassumption
    iexact HC
  rw [bigSep_along (fun n => piece W c (dSet n) fullShare) [0, 1, 6, 7, 2, 3, 4, 5, 8, 9, 10, 11, 12, 13, 14, 15] (by decide) (by decide)]
  simp only [along]
  isplitl [R0 S8 S9]
  · iapply (feed W c (n := 0) (m := 8) (m' := 9) (by decide)).2
    isplitr [R0]; · isplitl [S8] <;> iassumption
    iexact R0
  isplitl [R1 S10 S11]
  · iapply (feed W c (n := 1) (m := 10) (m' := 11) (by decide)).2
    isplitr [R1]; · isplitl [S10] <;> iassumption
    iexact R1
  isplitl [R6 S12 S13]
  · iapply (feed W c (n := 6) (m := 12) (m' := 13) (by decide)).2
    isplitr [R6]; · isplitl [S12] <;> iassumption
    iexact R6
  isplitl [R7 S14 S15]
  · iapply (feed W c (n := 7) (m := 14) (m' := 15) (by decide)).2
    isplitr [R7]; · isplitl [S14] <;> iassumption
    iexact R7
  isplitl [P2]; · iexact P2
  isplitl [P3]; · iexact P3
  isplitl [P4]; · iexact P4
  isplitl [P5]; · iexact P5
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  iempintro

set_option maxHeartbeats 4000000 in
set_option maxRecDepth 8000 in
/-- The body: the output is the sum over all experts, the exchange buffer holds every device's experts, nothing is owed and every semaphore is at zero. -/
theorem body_runs {X : Vec F S2048x512 .bf16} {R : Vec F S512x16 .bf16} {I : Vec F S2048x2 .i32} {o : Vec F S2048x1024 .f32} {w : Vec F S2048x16 .f32} {xb : Vec F S2048x512 .bf16}
    {Q : PUnit → sProp 𝕄} :
    iprop(ctx W K ∗ begun c ∗ owe c (O₀ c) ∗ hold c cc0_stg0_0 X ∗ hold c cc0_stg1_0 R ∗ hold c cc0_stg2_0 I ∗ hold c cc0_stg3_0 (W c) ∗ hold c cc0_stg4_0 o
        ∗ (∃ f : Buf (Elt F) (cLoc c), cLoc c ↦{fullShare} f) ∗ hold c cc0_scratch1 w ∗ hold c cc0_scratch2 xb)
      ⊢ iprop(((hold c cc0_stg0_0 X ∗ hold c cc0_stg1_0 R ∗ hold c cc0_stg2_0 I ∗ hold c cc0_stg3_0 (W c) ∗ hold c cc0_stg4_0 (sum13 W c (wgt X R I) (k0_pay5 X))
          ∗ vals c (wgt X R I) (k0_pay5 X) ∗ (cLoc c ↦{fullShare} (commOf W c : Buf (Elt F) (cLoc c))) ∗ owe c 0 ∗ ended c) -∗ Q ⟨⟩)
        -∗ wp frame (wpE (defs₀ (F := F)) 𝒱₀ (c : Thread nD τ) none) Set.univ (run cc0_body) Q) := by
  simp only [run, cc0_body_eq_skeleton]; unfold cc0_body_skel
  simp only [k0_part30_eq_skeleton]; unfold k0_part30_skel
  simp only [Prog.lift, Prog.bind_op, Prog.bind_ret, Prog.pure_eq_ret]
  unfold begun
  iintro ⟨#HC, ⟨HtP, HtN, Hcr, Hat, Hri, HaS, Hco⟩, Ho, HX, HR, HI, Hew, Hout, Hc, Hw, Hx⟩ Hk
  rw [wp_bind]
  rw [wp_bind]
  iapply (part1 W K c) $$ [Hew Hc Ho HtP HtN Hcr Hat Hri]
  · isplitr; · iexact HC
    isplitl [Hew]; · iexact Hew
    isplitl [Hc]; · iexact Hc
    isplitl [Ho]; · iexact Ho
    isplitl [HtP]; · iexact HtP
    isplitl [HtN]; · iexact HtN
    isplitl [Hcr]; · iexact Hcr
    isplitl [Hat]; · iexact Hat
    iexact Hri
  iintro ⟨Hew, Hs0, Ho, Hrd, Hzb⟩
  try dsimp only
  icases (slot0_share W c) $$ Hs0 with ⟨⟨S0, S1, S2, S3⟩, ⟨S7, S6, S5, S4⟩, Hp0⟩
  ihave Hst : st W c order [] [] arrivals [] $$ [Ho Hrd HaS Hco]
  · unfold st
    isplitl [Ho]; · iexact Ho
    isplitl [Hrd]; · iexact Hrd
    isplitr; · simp only [along]; iempintro
    isplitl [HaS]; · iexact HaS
    isplitr; · simp only [along]; iempintro
    isplitl [Hco]; · iexact Hco
    simp only [along]; iempintro
  rw [wp_bind]
  iapply (part2 W K c) $$ [S0 S1 S2 Hst]
  · isplitr; · iexact HC
    isplitl [S0]; · iexact S0
    isplitl [S1]; · iexact S1
    isplitl [S2]; · iexact S2
    iexact Hst
  iintro Hst
  try dsimp only
  rw [wp_bind]
  iapply (part3 W K c) $$ [S3 S7 Hst]
  · isplitr; · iexact HC
    isplitl [S3]; · iexact S3
    isplitl [S7]; · iexact S7
    iexact Hst
  iintro Hst
  try dsimp only
  rw [wp_bind]
  iapply (part4 W K c) $$ [S6 S5 S4 HX HR Hst]
  · isplitr; · iexact HC
    isplitl [S6]; · iexact S6
    isplitl [S5]; · iexact S5
    isplitl [S4]; · iexact S4
    isplitl [HX]; · iexact HX
    isplitl [HR]; · iexact HR
    iexact Hst
  iintro ⟨HX, HR, Hst⟩
  try dsimp only
  rw [wp_bind]
  iapply (part5 c) $$ [HX HI Hw Hx Hout]
  · isplitl [HX]; · iexact HX
    isplitl [HI]; · iexact HI
    isplitl [Hw]; · iexact Hw
    isplitl [Hx]; · iexact Hx
    iexact Hout
  iintro ⟨HX, HI, Hv, Hout⟩
  try dsimp only
  rw [wp_bind]
  iapply (part6 c) $$ [Hv]
  · iexact Hv
  iintro Hv
  try dsimp only
  rw [wp_bind]
  iapply (part7 W K c) $$ [Hv Hp0 Hout Hst]
  · isplitr; · iexact HC
    isplitl [Hv]; · iexact Hv
    isplitl [Hp0]; · iexact Hp0
    isplitl [Hout]; · iexact Hout
    iexact Hst
  iintro ⟨Hv, Hp0, Hout, H0, Hst⟩
  try dsimp only
  icases (feed W c (n := 0) (m := 8) (m' := 9) (by decide)).1 $$ H0 with ⟨⟨S8, S9⟩, R0⟩
  rw [wp_bind]
  iapply (part8 W K c) $$ [S8 S9 Hst]
  · isplitr; · iexact HC
    isplitl [S8]; · iexact S8
    isplitl [S9]; · iexact S9
    iexact Hst
  iintro Hst
  try dsimp only
  rw [wp_bind]
  iapply (part9 W K c) $$ [Hst]
  · isplitr; · iexact HC
    iexact Hst
  iintro ⟨R1, Hst⟩
  try dsimp only
  rw [wp_bind]
  iapply (part10 W K c) $$ [Hst]
  · isplitr; · iexact HC
    iexact Hst
  iintro ⟨R7, Hst⟩
  try dsimp only
  rw [wp_bind]
  iapply (part11 W K c) $$ [Hst]
  · isplitr; · iexact HC
    iexact Hst
  iintro ⟨S13, R6, Hst⟩
  try dsimp only
  rw [wp_bind]
  iapply (part12 W K c) $$ [Hv S13 Hst]
  · isplitr; · iexact HC
    isplitl [Hv]; · iexact Hv
    isplitl [S13]; · iexact S13
    iexact Hst
  iintro ⟨Hv, Hst⟩
  try dsimp only
  ihave Hp1 := (piece_cut W c (a := 1) (o := ![1, 0, 0, 0]) (sz := ![1, 2, 512, 1024]) (o₁ := dOff 0) (sz₁ := bsz 0) (o₂ := dOff 1) (sz₂ := bsz 1) (by decide) fullShare.right).2 $$ [R0 R1]
  · isplitl [R0] <;> iassumption
  rw [wp_bind]
  iapply (part13 W c) $$ [Hv Hp1 Hout]
  · isplitl [Hv]; · iexact Hv
    isplitl [Hp1]; · iexact Hp1
    iexact Hout
  iintro ⟨Hv, Hp1, Hout⟩
  try dsimp only
  icases (piece_cut W c (a := 1) (o := ![1, 0, 0, 0]) (sz := ![1, 2, 512, 1024]) (o₁ := dOff 0) (sz₁ := bsz 0) (o₂ := dOff 1) (sz₂ := bsz 1) (by decide) fullShare.right).1 $$ Hp1 with ⟨R0, R1⟩
  ihave Hp2 := (piece_cut W c (a := 1) (o := ![2, 2, 0, 0]) (sz := ![1, 2, 512, 1024]) (o₁ := dOff 6) (sz₁ := bsz 6) (o₂ := dOff 7) (sz₂ := bsz 7) (by decide) fullShare.right).2 $$ [R6 R7]
  · isplitl [R6] <;> iassumption
  rw [wp_bind]
  iapply (part14 W K c) $$ [Hp2 Hout Hst]
  · isplitr; · iexact HC
    isplitl [Hp2]; · iexact Hp2
    isplitl [Hout]; · iexact Hout
    iexact Hst
  iintro ⟨Hp2, Hout, P2, P3, Hst⟩
  try dsimp only
  icases (piece_cut W c (a := 1) (o := ![2, 2, 0, 0]) (sz := ![1, 2, 512, 1024]) (o₁ := dOff 6) (sz₁ := bsz 6) (o₂ := dOff 7) (sz₂ := bsz 7) (by decide) fullShare.right).1 $$ Hp2 with ⟨R6, R7⟩
  ihave Hp3 := (piece_cut W c (a := 1) (o := ![1, 2, 0, 0]) (sz := ![1, 2, 512, 1024]) (o₁ := dOff 2) (sz₁ := bsz 2) (o₂ := dOff 3) (sz₂ := bsz 3) (by decide) fullShare).2 $$ [P2 P3]
  · isplitl [P2] <;> iassumption
  rw [wp_bind]
  iapply (part15 W c) $$ [Hv Hp3 Hout]
  · isplitl [Hv]; · iexact Hv
    isplitl [Hp3]; · iexact Hp3
    iexact Hout
  iintro ⟨Hv, Hp3, Hout⟩
  try dsimp only
  icases (piece_cut W c (a := 1) (o := ![1, 2, 0, 0]) (sz := ![1, 2, 512, 1024]) (o₁ := dOff 2) (sz₁ := bsz 2) (o₂ := dOff 3) (sz₂ := bsz 3) (by decide) fullShare).1 $$ Hp3 with ⟨P2, P3⟩
  rw [wp_bind]
  iapply (part16 W K c) $$ [Hv Hout Hst]
  · isplitr; · iexact HC
    isplitl [Hv]; · iexact Hv
    isplitl [Hout]; · iexact Hout
    iexact Hst
  iintro ⟨Hv, Hout, P5, P4, Hst⟩
  try dsimp only
  ihave Hp4 := (piece_cut W c (a := 1) (o := ![2, 0, 0, 0]) (sz := ![1, 2, 512, 1024]) (o₁ := dOff 4) (sz₁ := bsz 4) (o₂ := dOff 5) (sz₂ := bsz 5) (by decide) fullShare).2 $$ [P4 P5]
  · isplitl [P4] <;> iassumption
  rw [wp_bind]
  iapply (part17 W c) $$ [Hv Hp4 Hout]
  · isplitl [Hv]; · iexact Hv
    isplitl [Hp4]; · iexact Hp4
    iexact Hout
  iintro ⟨Hv, Hp4, Hout⟩
  try dsimp only
  icases (piece_cut W c (a := 1) (o := ![2, 0, 0, 0]) (sz := ![1, 2, 512, 1024]) (o₁ := dOff 4) (sz₁ := bsz 4) (o₂ := dOff 5) (sz₂ := bsz 5) (by decide) fullShare).1 $$ Hp4 with ⟨P4, P5⟩
  rw [wp_bind]
  iapply (part18 W K c) $$ [Hv Hout Hst]
  · isplitr; · iexact HC
    isplitl [Hv]; · iexact Hv
    isplitl [Hout]; · iexact Hout
    iexact Hst
  iintro ⟨Hv, Hout, P8, Hst⟩
  try dsimp only
  rw [wp_bind]
  iapply (part19 W K c) $$ [Hv Hout Hst]
  · isplitr; · iexact HC
    isplitl [Hv]; · iexact Hv
    isplitl [Hout]; · iexact Hout
    iexact Hst
  iintro ⟨Hv, Hout, P14, Hst⟩
  try dsimp only
  rw [wp_bind]
  iapply (part20 W K c) $$ [Hv Hout Hst]
  · isplitr; · iexact HC
    isplitl [Hv]; · iexact Hv
    isplitl [Hout]; · iexact Hout
    iexact Hst
  iintro ⟨Hv, Hout, P9, Hst⟩
  try dsimp only
  rw [wp_bind]
  iapply (part21 W K c) $$ [Hv Hout Hst]
  · isplitr; · iexact HC
    isplitl [Hv]; · iexact Hv
    isplitl [Hout]; · iexact Hout
    iexact Hst
  iintro ⟨Hv, Hout, P15, Hst⟩
  try dsimp only
  rw [wp_bind]
  iapply (part22 W K c) $$ [Hv Hout Hst]
  · isplitr; · iexact HC
    isplitl [Hv]; · iexact Hv
    isplitl [Hout]; · iexact Hout
    iexact Hst
  iintro ⟨Hv, Hout, P10, Hst⟩
  try dsimp only
  rw [wp_bind]
  iapply (part23 W K c) $$ [Hv Hout Hst]
  · isplitr; · iexact HC
    isplitl [Hv]; · iexact Hv
    isplitl [Hout]; · iexact Hout
    iexact Hst
  iintro ⟨Hv, Hout, P12, Hst⟩
  try dsimp only
  rw [wp_bind]
  iapply (part24 W K c) $$ [Hv Hout Hst]
  · isplitr; · iexact HC
    isplitl [Hv]; · iexact Hv
    isplitl [Hout]; · iexact Hout
    iexact Hst
  iintro ⟨Hv, Hout, P11, Hst⟩
  try dsimp only
  rw [wp_bind]
  iapply (part25 W K c) $$ [Hv Hout Hst]
  · isplitr; · iexact HC
    isplitl [Hv]; · iexact Hv
    isplitl [Hout]; · iexact Hout
    iexact Hst
  iintro ⟨Hv, Hout, P13, Hst⟩
  try dsimp only
  rw [wp_bind]
  iapply (part26 W K c) $$ [Hst]
  · isplitr; · iexact HC
    iexact Hst
  iintro Hst
  try dsimp only
  rw [wp_bind]
  iapply (part27 W K c) $$ [Hst]
  · isplitr; · iexact HC
    iexact Hst
  iintro Hst
  try dsimp only
  rw [wp_bind]
  iapply (part28 W K c) $$ [Hst]
  · isplitr; · iexact HC
    iexact Hst
  iintro Hst
  try dsimp only
  rw [wp_bind]
  iapply (part29 W K c) $$ [Hst]
  · isplitr; · iexact HC
    iexact Hst
  iintro Hst
  try dsimp only
  iapply (wp_letgo W K c 15 rfl rfl rfl rfl) $$ [Hst]
  · isplitr; · iexact HC
    iexact Hst
  iintro Hst
  iapply (wp_letgo W K c 12 rfl rfl rfl rfl) $$ [Hst]
  · isplitr; · iexact HC
    iexact Hst
  iintro Hst
  rw [wp_ret]; imodintro
  try dsimp only
  iapply (wp_letgo W K c 13 rfl rfl rfl rfl) $$ [Hst]
  · isplitr; · iexact HC
    iexact Hst
  iintro Hst
  rw [wp_ret]; imodintro
  unfold st
  icases Hst with ⟨Ho, -, -, -, HzS, -, HzR⟩
  icases (finished W c done) $$ HzS with ⟨HzS, Hsrc⟩
  iapply Hk
  isplitl [HX]; · iexact HX
  isplitl [HR]; · iexact HR
  isplitl [HI]; · iexact HI
  isplitl [Hew]; · iexact Hew
  isplitl [Hout]; · iexact Hout
  isplitl [Hv]; · iexact Hv
  isplitl [Hsrc Hp0 R0 R1 R6 R7 P2 P3 P4 P5 P8 P9 P10 P11 P12 P13 P14 P15]
  · iapply (rejoin W c)
    isplitl [Hsrc]; · iexact Hsrc
    isplitl [Hp0]; · iexact Hp0
    isplitl [R0]; · iexact R0
    isplitl [R1]; · iexact R1
    isplitl [R6]; · iexact R6
    isplitl [R7]; · iexact R7
    simp only [along]
    isplitl [P2]; · iexact P2
    isplitl [P3]; · iexact P3
    isplitl [P4]; · iexact P4
    isplitl [P5]; · iexact P5
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    iempintro
  isplitl [Ho]; · iexact Ho
  unfold ended
  isplitl [Hzb]; · iexact Hzb
  isplitl [HzS]
  · rw [bigSep_along (fun n => semVal (sndCell c n) 0) done (by decide) (by decide)]; iexact HzS
  rw [bigSep_along (fun n => semVal (rcvCell c n) 0) came (by decide) (by decide)]; iexact HzR

end Cert.KernelIdeal.Moe

end
-- ==== Proof.Dats.lean ====
/-
The kernel's one call as the launch sees it: what each staged array holds before and after, the device's state before and
after the body, and that the body takes one to the other.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged arrays -/

/-- Device `c`'s tokens … -/
abbrev Xof (c : Dev nD) : Vec F S2048x512 .bf16 := (win0_0.blk (0 : Fin 1)).view.read (Elt F) (m ((c : Thread nD τ).loc main_arg0))
/-- … the router … -/
abbrev Rof (c : Dev nD) : Vec F S512x16 .bf16 := (win0_1.blk (0 : Fin 1)).view.read (Elt F) (m ((c : Thread nD τ).loc main_arg1))
/-- … the expert numbers of its tokens … -/
abbrev Iof (c : Dev nD) : Vec F S2048x2 .i32 := (win0_2.blk (0 : Fin 1)).view.read (Elt F) (m ((c : Thread nD τ).loc main_arg2))
/-- … and its own experts. -/
abbrev Wof (c : Dev nD) : Vec F S4x512x1024 .bf16 := (win0_3.blk (0 : Fin 1)).view.read (Elt F) (m ((c : Thread nD τ).loc main_arg3))

/-- What device `c` computes. -/
def outOf (c : Dev nD) : Vec F S2048x1024 .f32 := sum13 (Wof m) c (wgt (Xof m c) (Rof m c) (Iof m c)) (k0_pay5 (Xof m c))

/-! ## The call's data -/

/-- The device's share of the protocol at the start. -/
def start (c : Dev nD) : sProp 𝕄 := iprop(∃ K, ctx (Wof m) K ∗ begun c)
/-- The kernel's own buffers, at any contents. -/
def scratch (c : Dev nD) : sProp 𝕄 :=
  iprop((∃ f : Buf (Elt F) (cLoc c), cLoc c ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What the body is given besides the staged arrays … -/
def Φ₀ (c : Dev nD) : sProp 𝕄 := iprop(start m c ∗ scratch c)
/-- … and what it gives back. -/
def Φ₁ (c : Dev nD) : sProp 𝕄 := iprop(ended c ∗ scratch c)

/-- The call's data: what each window holds before and after the body, and what the device owes. -/
def dats (_ : Fin 1) (c : Dev nD) : Dat τ (Elt F) Unit ℕ UU ℕ cfg0 c where
  A w := V m c (Pipeline.arrRef spec0 w)
  after w _ := match w with
    | ⟨0, _⟩ => Xof m c
    | ⟨1, _⟩ => Rof m c
    | ⟨2, _⟩ => Iof m c
    | ⟨3, _⟩ => Wof m c
    | ⟨4, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- To own a whole buffer at known contents. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The body's obligation -/

/-- A staging buffer at known contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body starts from … -/
def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

/-- … and what it ends with. -/
def bodyPost (c : Dev nD) : sProp 𝕄 :=
  iprop(Φ₁ c ∗ (dats m 0 c).owesAt () t0_0.succ
    ∗ stg c cc0_stg0_0 (Xof m c) ∗ stg c cc0_stg1_0 (Rof m c) ∗ stg c cc0_stg2_0 (Iof m c) ∗ stg c cc0_stg3_0 (Wof m c) ∗ stg c cc0_stg4_0 (outOf m c))

omit [FloatOps F] in
/-- A held buffer is a staging buffer at known contents. -/
theorem stg_intro (c : Dev nD) (b : Ref sig .tc) (Y : b.ty.Contents (Elt F)) : hold c b Y ⊢ (stg c b Y : sProp 𝕄) := by
  unfold hold
  iintro H
  iexists Y
  isplitr; · ipureintro; rfl
  iexact H

set_option maxHeartbeats 1600000 in
/-- The body keeps its promise: from what it starts from it ends with the device's result. -/
theorem sound_body (c : Dev nD) : bodyPre m c ⊢ wp frame (wpE (defs₀ (F := F)) 𝒱₀ c none) Set.univ (run cc0_body) (fun _ => bodyPost m c) := by
  unfold bodyPre Φ₀ start scratch
  iintro ⟨⟨⟨%K, #HC, Hb⟩, Hc, ⟨%w, Hw⟩, ⟨%xb, Hx⟩⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = Xof m c := by rw [h0]; unfold Dat.before; rw [if_pos (fetch0_0 t0_0)]; rfl
  have e1 : g1 = Rof m c := by rw [h1]; unfold Dat.before; rw [if_pos (fetch0_1 t0_0)]; rfl
  have e2 : g2 = Iof m c := by rw [h2]; unfold Dat.before; rw [if_pos (fetch0_2 t0_0)]; rfl
  have e3 : g3 = Wof m c := by rw [h3]; unfold Dat.before; rw [if_pos (fetch0_3 t0_0)]; rfl
  subst e0 e1 e2 e3
  unfold Dat.owesAt Pipeline.owesWithin
  icases Ho with ⟨%U, %hU, HO⟩
  rw [show (dats m 0 c).owed t0_0.castSucc = O₀ c from rfl]
  iapply (body_runs (Wof m) K c (X := Xof m c) (R := Rof m c) (I := Iof m c) (o := g4) (w := w) (xb := xb)) $$ [Hb HO H0 H1 H2 H3 H4 Hc Hw Hx]
  · isplitr; · iexact HC
    isplitl [Hb]; · iexact Hb
    isplitl [HO]; · unfold owe; iexists U; iexact HO
    unfold hold
    isplitl [H0]; · iexact H0
    isplitl [H1]; · iexact H1
    isplitl [H2]; · iexact H2
    isplitl [H3]; · iexact H3
    isplitl [H4]; · iexact H4
    isplitl [Hc]; · iexact Hc
    isplitl [Hw] <;> iassumption
  iintro ⟨H0, H1, H2, H3, H4, Hv, Hc, HO, He⟩
  unfold bodyPost Φ₁ scratch Dat.owesAt Pipeline.owesWithin
  rw [show (dats m 0 c).owed t0_0.succ = 0 from rfl]
  unfold owe vals
  icases HO with ⟨%U', HO⟩
  icases Hv with ⟨Hw, Hx⟩
  isplitl [He Hc Hw Hx]
  · isplitl [He]; · iexact He
    isplitl [Hc]; · iexists _; iexact Hc
    unfold hold
    isplitl [Hw]; · iexists _; iexact Hw
    iexists _; iexact Hx
  isplitl [HO]
  · iexists U'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  iapply (stg_intro c cc0_stg4_0); unfold outOf; iexact H4

set_option maxRecDepth 100000 in
/-- The launch's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (run cc0_body) (fun _ => bodyPost m c)
  exact sound_body m c

end Cert.KernelIdeal.Moe

end
-- ==== Proof.Launch.lean ====
/-
The launch: the exchange's ghost state made and dealt to the devices, the credits each device starts with, and the run of
the whole program from any memory to the computed arrays with every semaphore at zero.
-/
module

public import proofs.«01_k».proof.Proof.Dats
public import Idealize.ShloMosaic.Adequacy
public import Idealize.ShloMosaic.Lib.Pipeline.CollectiveSegs
public import Idealize.ShloMosaic.Init

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, numbered -/

/-- The kernel's own semaphores: all the cells but the barrier. -/
def osem (k : Fin 32) : SemLoc sig := csem k.succ

/-- The kernel's semaphores are its own: none is a staging semaphore, and no two agree. -/
theorem ownSemFacts : Pipeline.OwnSemFacts cfg0.spec osem := by decide

/-- Every window is held in full. -/
theorem share_eq (c : Dev nD) (w : Fin cfg0.W) : (dats m 0 c).share w = fullShare := by unfold Dat.share; split <;> rfl

/-- The semaphores of a device are numbered once each. -/
theorem csem_injective : Function.Injective csem := by decide

/-- So are the semaphores of all devices. -/
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Different copies have different receive semaphores. -/
theorem rcv_injective : Function.Injective fun n : Fin 16 => (SemLoc.dma (rcvS n) : SemLoc sig) := fun a b h => by
  dsimp only at h
  rw [← csem_kR, ← csem_kR] at h
  have := congrArg Fin.val (csem_injective h)
  exact Fin.ext (by unfold kR at this; dsimp only at this; omega)

omit [FloatOps F] in
/-- All the cells of a device: the barrier and its own. -/
theorem split_own (Φ : Fin 33 → sProp 𝕄) : bigSep Finset.univ Φ = iprop(Φ 0 ∗ bigSep Finset.univ fun k : Fin 32 => Φ k.succ) := by
  rw [Fin.univ_succ, Finset.cons_eq_insert, bigSep_insert (by simp), bigSep_map]; rfl

omit [FloatOps F] in
/-- All the cells of a device: the barrier, the send semaphores, the receive semaphores. -/
theorem split_roles (Φ : Fin 33 → sProp 𝕄) :
    bigSep Finset.univ Φ = iprop(Φ 0 ∗ (bigSep Finset.univ fun n : Fin 16 => Φ (kS n)) ∗ bigSep Finset.univ fun n : Fin 16 => Φ (kR n)) := by
  have e : (Finset.univ : Finset (Fin 33)) = insert 0 (Finset.univ.map ⟨kS, by decide⟩ ∪ Finset.univ.map ⟨kR, by decide⟩) := by decide
  rw [e, bigSep_insert (by decide), bigSep_union (by decide), bigSep_map, bigSep_map]; rfl

/-! ## The tokens -/

/-- All the semaphores of the exchange. -/
def ringCells : Finset (GSem nD τ sig) := Finset.univ.map ⟨kcell, kcell_injective⟩

/-- A cell's two duty tokens. -/
def tokOf (x : (Dev nD × Fin 33) × Bool) : GSem nD τ sig × ℕ × Bool := (kcell x.1, 0, x.2)
/-- Different duties have different tokens. -/
theorem tokOf_injective : Function.Injective tokOf := by
  rintro ⟨a, b⟩ ⟨a', b'⟩ h
  have h1 : a = a' := kcell_injective (congrArg Prod.fst h)
  have h2 : b = b' := congrArg (fun x : GSem nD τ sig × ℕ × Bool => x.2.2) h
  rw [h1, h2]
/-- All the tokens of the exchange. -/
def ringToks : Finset (GSem nD τ sig × ℕ × Bool) := Finset.univ.map ⟨tokOf, tokOf_injective⟩

/-- The state of the protocols at the launch. -/
def u₀ : UU := (initOf (Pipeline.cells cfgs cellOf_inj) (Pipeline.launchToks cfgs cellOf_inj), initOf ringCells ringToks)

/-- The duty tokens of a cell. -/
def toks (g : GSem nD τ sig) : sProp 𝕄 := iprop(dutyTok ER g 0 false ∗ dutyTok ER g 0 true)

/-- What the launch deals device `c`. -/
def dealt (c : Dev nD) : sProp 𝕄 :=
  iprop((bigSep Finset.univ fun k : Fin 33 => roundState ER (ringRd (Wof m)) (kcell (c, k)) 0)
    ∗ (bigSep Finset.univ fun k : Fin 33 => iprop(atPos ER (kcell (c, k)) 0 ∅ 0 ∗ reached ER (kcell (c, k)) 0))
    ∗ bigSep Finset.univ fun k : Fin 33 => toks (kcell (c, k)))

omit [FloatOps F] in
/-- Over the two truth values. -/
theorem bigSep_bool (Φ : Bool → sProp 𝕄) : bigSep Finset.univ Φ = iprop(Φ false ∗ Φ true) :=
  bigSep_univ_eq_bigSepL [false, true] (by decide) (by decide) Φ

omit [FloatOps F] in
/-- The launch's state deals every device its part. -/
theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 33 => toks (kcell (c, k)) := by
    unfold ringToks; rw [bigSep_map, bigSep_univ_prod, bigSep_univ_prod]
    exact bigSep_congr fun c _ => bigSep_congr fun k _ => by unfold toks; rw [bigSep_bool]; rfl
  iintro HX
  imod (Rounds.fund ER (ringRd (Wof m)) ringCells ringToks) $$ HX with ⟨Hst, Hr, Hat, Htok⟩
  imodintro
  ihave Hst' := (Entails.of_eq (hX fun g => roundState ER (ringRd (Wof m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

omit [FloatOps F] in
/-- The kernel's own semaphores at zero, named by role. -/
theorem ownSems0_eq (c : Dev nD) : (Pipeline.ownSems0 (Ix := Unit) (Name := ℕ) (U := UU) (Lvl := ℕ) (Val := Elt F) (τ := τ) osem c : sProp 𝕄)
    = bigSep Finset.univ fun k : Fin 32 => semVal (kcell (c, k.succ)) 0 := rfl

omit [FloatOps F] in
/-- The barrier at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of the exchange at zero, as the launch lists them. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 33 => semVal (kcell (c, k)) 0 : sProp 𝕄) := by
  rw [ownSems0_eq, unscopedSems0_eq, split_own]; rfl

omit [FloatOps F] in
/-- All semaphores of a device at zero at the end. -/
theorem ended_eq (c : Dev nD) : (ended c : sProp 𝕄) = bigSep Finset.univ fun k : Fin 33 => semVal (kcell (c, k)) 0 := by
  rw [split_roles]
  simp only [kcell_kS, kcell_kR]; rfl

omit [FloatOps F] in
/-- A device turns its zeroed semaphores into invariants of the schedule. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (ringRd (Wof m)) κ (kcell (c, k))))
          ∗ (bigSep Finset.univ fun k => iprop(atPos ER (kcell (c, k)) 0 ∅ 0 ∗ reached ER (kcell (c, k)) 0))
          ∗ bigSep Finset.univ fun k : Fin 33 => toks (kcell (c, k))) := by
  unfold dealt
  iintro ⟨Hos, Hus, Hst, Hat, Htok⟩
  ihave Hv := (Entails.of_eq (sems0_eq (F := F) c)) $$ [Hos Hus]
  · isplitl [Hus] <;> iassumption
  imod (show iprop((bigSep Finset.univ fun k : Fin 33 => semVal (kcell (c, k)) 0) ∗ bigSep Finset.univ fun k : Fin 33 => roundState ER (ringRd (Wof m)) (kcell (c, k)) 0)
      ⊢ (|={Set.univ}=> bigSep Finset.univ fun k => iprop(∃ κ : ℕ, cellInv ER (ringRd (Wof m)) κ (kcell (c, k))) : sProp 𝕄) from by
        rw [← bigSep_sep']
        exact (bigSep_mono fun k _ => (Rounds.body_intro ER (ringRd (Wof m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- What every device knows: the cells' invariants and that their first rounds have begun. -/
def records (K : Dev nD × Fin 33 → ℕ) : sProp 𝕄 :=
  iprop((bigSep Finset.univ fun ck : Dev nD × Fin 33 => cellInv ER (ringRd (Wof m)) (K ck) (kcell ck))
    ∗ bigSep Finset.univ fun ck : Dev nD × Fin 33 => reached ER (kcell ck) 0)

/-- What every device knows can be handed to each. -/
instance records_persistent (K : Dev nD × Fin 33 → ℕ) : BI.Persistent (records m K) := by unfold records; infer_instance

/-- The rights a device pays with. -/
def payToks (c : Dev nD) : sProp 𝕄 :=
  iprop(dutyTok ER (barCell (prv c)) 0 true ∗ dutyTok ER (barCell (nxt c)) 0 false ∗ bigSep Finset.univ fun n : Fin 16 => rights c n)
/-- A device's positions at its own cells. -/
def positions (c : Dev nD) : sProp 𝕄 :=
  iprop(atPos ER (barCell c) 0 ∅ 0 ∗ (bigSep Finset.univ fun n : Fin 16 => atPos ER (sndCell c n) 0 ∅ 0)
    ∗ bigSep Finset.univ fun n : Fin 16 => atPos ER (rcvCell c n) 0 ∅ 0)
/-- What device `c` has when the exchange is set up. -/
def given (c : Dev nD) : sProp 𝕄 := iprop(∃ K, records m K ∗ positions c ∗ payToks c)

omit [FloatOps F] in
/-- A device's positions on its semaphores, by role. -/
theorem positions_eq (c : Dev nD) : (bigSep Finset.univ fun k : Fin 33 => (atPos ER (kcell (c, k)) 0 ∅ 0 : sProp 𝕄)) = positions c := by
  rw [split_roles]
  simp only [kcell_kS, kcell_kR]; rfl

/-- The devices, seen from the end of copy `n`. -/
def hop (n : Fin 16) : Dev nD ≃ Dev nD := ⟨fun c => dstD c n, fun c => srcD c n, fun c => srcD_dstD c n, fun c => dstD_srcD c n⟩

omit [FloatOps F] in
/-- The right to pay at copy `n`'s end goes to the device the copy starts from. -/
theorem rcv_around : (bigSep Finset.univ fun c : Dev nD => bigSep Finset.univ fun n : Fin 16 => (dutyTok ER (rcvCell c n) 0 false : sProp 𝕄))
    = bigSep Finset.univ fun c : Dev nD => bigSep Finset.univ fun n : Fin 16 => dutyTok ER (rcvCell (dstD c n) n) 0 false := by
  rw [bigSep_univ_comm, bigSep_univ_comm (fun (c : Dev nD) (n : Fin 16) => (dutyTok ER (rcvCell (dstD c n) n) 0 false : sProp 𝕄))]
  exact bigSep_congr fun n _ => bigSep_univ_equiv (hop n) fun c : Dev nD => (dutyTok ER (rcvCell c n) 0 false : sProp 𝕄)

omit [FloatOps F] in
/-- A device's tokens, the unused ones dropped. -/
theorem toks_used (c : Dev nD) : (bigSep Finset.univ fun k : Fin 33 => (toks (kcell (c, k)) : sProp 𝕄))
    ⊢ iprop(dutyTok ER (barCell c) 0 true ∗ dutyTok ER (barCell c) 0 false ∗ (bigSep Finset.univ fun n : Fin 16 => dutyTok ER (sndCell c n) 0 false)
      ∗ bigSep Finset.univ fun n : Fin 16 => dutyTok ER (rcvCell c n) 0 false) := by
  rw [split_roles]
  simp only [kcell_kS, kcell_kR, kcell_bar]
  have left (g : GSem nD τ sig) : (toks g : sProp 𝕄) ⊢ dutyTok ER g 0 false := by unfold toks; exact sep_elim_left
  have hS : (bigSep Finset.univ fun n : Fin 16 => (toks (sndCell c n) : sProp 𝕄)) ⊢ bigSep Finset.univ fun n : Fin 16 => dutyTok ER (sndCell c n) 0 false :=
    bigSep_mono fun n _ => left (sndCell c n)
  have hR : (bigSep Finset.univ fun n : Fin 16 => (toks (rcvCell c n) : sProp 𝕄)) ⊢ bigSep Finset.univ fun n : Fin 16 => dutyTok ER (rcvCell c n) 0 false :=
    bigSep_mono fun n _ => left (rcvCell c n)
  iintro ⟨HB, HS, HR⟩
  ihave HB := (show (toks (barCell c) : sProp 𝕄) ⊢ iprop(dutyTok ER (barCell c) 0 false ∗ dutyTok ER (barCell c) 0 true) from Entails.of_eq rfl) $$ HB
  icases HB with ⟨HF, HT⟩
  isplitl [HT]; · iexact HT
  isplitl [HF]; · iexact HF
  isplitl [HS]
  · iapply hS; iexact HS
  iapply hR; iexact HR

omit [FloatOps F] in
/-- The tokens dealt to the devices that pay with them. -/
theorem toks_around : (bigSep Finset.univ fun c : Dev nD => bigSep Finset.univ fun k : Fin 33 => (toks (kcell (c, k)) : sProp 𝕄))
    ⊢ bigSep Finset.univ fun c : Dev nD => payToks c := by
  refine (bigSep_mono fun c _ => toks_used c).trans (Entails.of_eq (PROP := sProp 𝕄) ?_)
  unfold payToks rights
  simp only [bigSep_sep']
  rw [← rcv_around, bigSep_univ_equiv ring (fun c : Dev nD => (dutyTok ER (barCell c) 0 false : sProp 𝕄)),
    bigSep_univ_equiv ring.symm (fun c : Dev nD => (dutyTok ER (barCell c) 0 true : sProp 𝕄))]
  rfl

omit [FloatOps F] in
/-- A record every device may read, beside what each holds. -/
theorem share_record {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
/-- The dealt parts, regrouped by the device that uses them. -/
theorem regroup :
    (bigSep Finset.univ fun c : Dev nD => iprop((bigSep Finset.univ fun k => iprop(∃ κ : ℕ, cellInv ER (ringRd (Wof m)) κ (kcell (c, k))))
          ∗ (bigSep Finset.univ fun k => iprop(atPos ER (kcell (c, k)) 0 ∅ 0 ∗ reached ER (kcell (c, k)) 0))
          ∗ bigSep Finset.univ fun k : Fin 33 => toks (kcell (c, k))) : sProp 𝕄)
      ⊢ bigSep Finset.univ (given m) := by
  rw [bigSep_sep', bigSep_sep', ← bigSep_univ_prod (fun ck : Dev nD × Fin 33 => iprop(∃ κ : ℕ, cellInv ER (ringRd (Wof m)) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (ringRd (Wof m)) κ (kcell ck) : sProp 𝕄))) $$ HI
  icases HK with ⟨%K, #HI⟩
  ihave Htk := (toks_around (F := F)) $$ Htok
  ihave Hps := (Entails.of_eq (bigSep_congr (s := Finset.univ) fun c _ => positions_eq (F := F) c)) $$ Hat
  iapply (share_record (R := records m K) (Φ := fun c => iprop(positions c ∗ payToks c)) fun c => by
    unfold given; iintro H; iexists K; iexact H)
  isplitr
  · unfold records; isplitl; · iexact HI
    iexact HR
  · rw [bigSep_sep']
    isplitl [Hps] <;> iassumption

omit [FloatOps F] in
/-- All the devices' semaphores and dealt state become the exchange, set up. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

/-! ## The credits -/

/-- Two barriers are one only on one device. -/
theorem bar_eq_iff {a b : Dev nD} : Iff (barCell a = barCell b) (a = b) :=
  ⟨fun h => Fin.ext (congrArg (fun g : GSem nD τ sig => g.1.1.val) h), fun h => h ▸ rfl⟩
/-- Two receive semaphores are one only for one copy to one device. -/
theorem rcv_eq_iff {a b : Dev nD} {n k : Fin 16} : Iff (rcvCell a n = rcvCell b k) (a = b ∧ n = k) :=
  ⟨fun h => ⟨Fin.ext (congrArg (fun g : GSem nD τ sig => g.1.1.val) h), rcv_injective (congrArg Prod.snd h)⟩, fun ⟨h, h'⟩ => by rw [h, h']⟩
/-- A receive semaphore is not a barrier. -/
theorem rcv_ne_bar (a b : Dev nD) (n : Fin 16) : rcvCell a n ≠ barCell b := fun h => by
  have := congrArg Prod.snd h; cases this

/-- What device `d` owes device `c`'s semaphore of copy `n`, along a list of copies. -/
theorem owed_rcv (d c : Dev nD) (n : Fin 16) (l : List (Fin 16)) : owed d l (rcvCell c n) () = if d = srcD c n then l.count n * amt n else 0 := by
  induction l with
  | nil => rw [List.count_nil, Nat.zero_mul, ite_self]; rfl
  | cons k l ih =>
    show (owed d l + tallyAt (rcvCell (dstD d k) k) () (amt k)) (rcvCell c n) () = _
    rw [Pi.add_apply, Finsupp.add_apply, ih, tallyAt_apply, List.count_cons]
    by_cases h : d = srcD c n
    · subst h
      by_cases hk : k = n
      · subst hk; rw [if_pos rfl, if_pos ⟨by rw [dstD_srcD], rfl⟩, if_pos rfl, if_pos (by simp), Nat.add_mul, Nat.one_mul]
      · rw [if_pos rfl, if_neg (fun h => hk (rcv_eq_iff.mp h.1).2.symm), if_pos rfl, if_neg (by simpa using hk), Nat.add_zero, Nat.add_zero]
    · rw [if_neg h, if_neg h, if_neg]
      intro ⟨h', _⟩
      obtain ⟨h1, h2⟩ := rcv_eq_iff.mp h'
      subst h2; exact h (by rw [h1, srcD_dstD])

/-- The copies owe no barrier anything. -/
theorem owed_list_bar (d c : Dev nD) (l : List (Fin 16)) : owed d l (barCell c) () = 0 := by
  induction l with
  | nil => rfl
  | cons k l ih =>
    show (owed d l + tallyAt (rcvCell (dstD d k) k) () (amt k)) (barCell c) () = _
    rw [Pi.add_apply, Finsupp.add_apply, ih, tallyAt_ne_cell (fun h => rcv_ne_bar _ _ _ h.symm)]; rfl

/-- A device owes one unit to each neighbour's barrier. -/
theorem O₀_bar (d c : Dev nD) : O₀ d (barCell c) () = (if d = prv c then 1 else 0) + (if d = nxt c then 1 else 0) := by
  unfold O₀ O₁
  rw [Pi.add_apply, Finsupp.add_apply, Pi.add_apply, Finsupp.add_apply, owed_list_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

/-- A device owes each of its copies' receive semaphores that copy's credit. -/
theorem O₀_rcv (d c : Dev nD) (n : Fin 16) : O₀ d (rcvCell c n) () = if d = srcD c n then amt n else 0 := by
  unfold O₀ O₁
  rw [Pi.add_apply, Finsupp.add_apply, Pi.add_apply, Finsupp.add_apply, owed_rcv, tallyAt_ne_cell (rcv_ne_bar _ _ _),
    tallyAt_ne_cell (rcv_ne_bar _ _ _), show order.count n = 1 from by revert n; decide, Nat.one_mul]; rfl

/-- A barrier may expect two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (prv c) fun _ => 1, Finset.sum_ite_eq' Finset.univ (nxt c) fun _ => 1, if_pos (Finset.mem_univ _), if_pos (Finset.mem_univ _)]

/-- A receive semaphore may expect its copy's credit. -/
theorem launch_rcv (c : Dev nD) (n : Fin 16) :
    tallyOn (rcvCell c n) (launchCredit (Pipeline.owing O₀) 0 (rcvCell c n)) = (tallyAt (rcvCell c n) () (amt n) : CellTallies nD τ sig Unit) := by
  unfold tallyAt; refine congrArg _ (Finsupp.ext fun u => ?_); cases u
  rw [Pipeline.launchCredit_owing, Finsupp.single_eq_same, Finset.sum_congr rfl fun d _ => O₀_rcv d c n,
    Finset.sum_ite_eq' Finset.univ (srcD c n) fun _ => amt n, if_pos (Finset.mem_univ _)]

omit [FloatOps F] in
/-- What a device may wait for: its barrier's two units and every copy's arrival. -/
theorem creds (c : Dev nD) :
    (Pipeline.launchCred O₀ c : sProp 𝕄) ⊢ iprop(cred (tallyAt (barCell c) () 2) ∗ bigSep Finset.univ fun n : Fin 16 => cred (tallyAt (rcvCell c n) () (amt n))) := by
  unfold Pipeline.launchCred
  rw [bigSep_univ_at _ (SemLoc.reg barS), launch_bar]
  refine sep_mono_right ?_
  refine (bigSep_subset (t := Finset.univ.map ⟨_, rcv_injective⟩) fun x hx => ?_).trans (Entails.of_eq (PROP := sProp 𝕄) ?_)
  · obtain ⟨n, _, rfl⟩ := Finset.mem_map.mp hx
    exact Finset.mem_erase.mpr ⟨(fun h => by cases h), Finset.mem_univ _⟩
  · rw [bigSep_map]
    exact bigSep_congr fun n _ => by rw [← launch_rcv]; rfl

/-! ## The call's conditions -/

omit [FloatOps F] in
/-- All arrivals, in the order in which they are waited for. -/
theorem coming_all (c : Dev nD) :
    iprop((bigSep Finset.univ fun n : Fin 16 => (cred (tallyAt (rcvCell c n) () (amt n)) : sProp 𝕄)) ∗ bigSep Finset.univ fun n : Fin 16 => atPos ER (rcvCell c n) 0 ∅ 0)
      = along (coming c) arrivals := by
  rw [← bigSep_sep', ← bigSep_along (coming c) (S := Finset.univ) arrivals (by decide) (by decide)]; rfl
omit [FloatOps F] in
/-- All positions on the send semaphores, in the order of the copies. -/
theorem atS_all (c : Dev nD) : (bigSep Finset.univ fun n : Fin 16 => (atPos ER (sndCell c n) 0 ∅ 0 : sProp 𝕄)) = along (atS c) order := by
  rw [← bigSep_along (atS c) (S := Finset.univ) order (by decide) (by decide)]; rfl
omit [FloatOps F] in
/-- All rights to pay, in the order of the copies. -/
theorem rights_all (c : Dev nD) : (bigSep Finset.univ fun n : Fin 16 => (rights c n : sProp 𝕄)) = along (rights c) order :=
  bigSep_along (rights c) order (by decide) (by decide)

omit [FloatOps F] in
/-- What a device is dealt is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  unfold given records positions payToks
  iintro ⟨-, Hlev, Hcr, -, ⟨%K, ⟨HI, Hre⟩, ⟨HaB, HaS, HaR⟩, HtT, HtF, Hrt⟩⟩
  ihave Hc := (creds (F := F) c) $$ Hcr
  icases Hc with ⟨H1, HN⟩
  ihave HC := (Entails.of_eq (coming_all (F := F) c)) $$ [HN HaR]
  · isplitl [HN] <;> iassumption
  ihave HaS := (Entails.of_eq (atS_all (F := F) c)) $$ HaS
  ihave Hrt := (Entails.of_eq (rights_all (F := F) c)) $$ Hrt
  imodintro
  unfold start ctx begun
  isplitl
  · iexists K
    isplitl [HI Hre Hlev]
    · isplitl [HI]; · iexact HI
      isplitl [Hre] <;> iassumption
    isplitl [HtT]; · iexact HtT
    isplitl [HtF]; · iexact HtF
    isplitl [H1]; · iexact H1
    isplitl [HaB]; · iexact HaB
    isplitl [Hrt]; · iexact Hrt
    isplitl [HaS] <;> iassumption
  · iempintro

/-- The launch gives the body its start … -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- … and the body's end gives back every semaphore at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [ended_eq, ← sems0_eq]
  unfold scratch
  iintro ⟨⟨Hu, Ho⟩, Hr⟩
  isplitl [Hu]; · iexact Hu
  isplitl [Ho] <;> iassumption

/-- The staging copies may be waited for whatever is owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m 0 c).arrAt w cfg0.N

set_option maxRecDepth 100000 in
/-- From any memory with zero counters every weakly fair execution of the four kernels ends, with each array of each device as
    computed and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.Frame.lean ====
/-
What the run leaves: the arguments as they were, and on each device the result it computes from its own arguments and the
weights of all four.
-/
module

public import proofs.«01_k».proof.Proof.Launch
public import Idealize.ShloMosaic.Lib.Pipeline.Value

@[expose] public section

noncomputable section

namespace Cert.KernelIdeal.Moe

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

omit [FloatOps F] in
/-- The first argument's one block is the whole array. -/
theorem Xof_eq (c : Dev nD) : Xof m c = m ((c : Thread nD τ).loc main_arg0) :=
  funext fun i => congrArg (m ((c : Thread nD τ).loc main_arg0)) (funext fun k => Fin.ext (win0_0.rect_emb_val_of_index_zero t0_0 k rfl i))

omit [FloatOps F] in
/-- The router's one block is the whole array. -/
theorem Rof_eq (c : Dev nD) : Rof m c = m ((c : Thread nD τ).loc main_arg1) :=
  funext fun i => congrArg (m ((c : Thread nD τ).loc main_arg1)) (funext fun k => Fin.ext (win0_1.rect_emb_val_of_index_zero t0_0 k rfl i))

omit [FloatOps F] in
/-- The indices' one block is the whole array. -/
theorem Iof_eq (c : Dev nD) : Iof m c = m ((c : Thread nD τ).loc main_arg2) :=
  funext fun i => congrArg (m ((c : Thread nD τ).loc main_arg2)) (funext fun k => Fin.ext (win0_2.rect_emb_val_of_index_zero t0_0 k rfl i))

omit [FloatOps F] in
/-- The weights' one block is the whole array. -/
theorem Wof_eq (c : Dev nD) : Wof m c = m ((c : Thread nD τ).loc main_arg3) :=
  funext fun i => congrArg (m ((c : Thread nD τ).loc main_arg3)) (funext fun k => Fin.ext (win0_3.rect_emb_val_of_index_zero t0_0 k rfl i))

/-- Every cell of the result's array lies in its one block, which the body left at the computed result. -/
theorem result_eq (c : Dev nD) : finalA m c 4 = outOf m c :=
  have emb (i : S2048x1024.Idx) : ((cfg0.win 4).blk t0_0).view.emb i = i :=
    funext fun k => Fin.ext (win0_4.rect_emb_val_of_index_zero t0_0 k rfl i)
  (dats m 0 c).arrAt_eq_of_cover 4 (outOf m c)
    (fun t _ => by
      obtain rfl : t = t0_0 := Subsingleton.elim (α := Fin 1) _ _
      exact funext fun i => congrArg (outOf m c) (emb i).symm)
    (fun i => ⟨t0_0, flush0_4 _, by
      have := ((cfg0.win 4).blk t0_0).view.emb_mem_set i
      rwa [emb i] at this⟩)

/-- From any memory with zero counters every run ends with the arguments unchanged, the result of each device computed, and
    every semaphore counter at zero. -/
theorem run_value : θ_run defs (onTc (τ := τ) (main (F := F))) ⟨m, fun _ => 0, ρ⟩ (fun r =>
    (∀ c : Dev nD, r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run defs (onTc (τ := τ) (main (F := F))) (s₀ m ρ)).mono ?_ (run_main m ρ)
  rintro r ⟨h, hs⟩
  exact ⟨fun c => ⟨(h c 4).trans (result_eq m c), (h c 0).trans ((dats m 0 c).arrAt_in 0 rfl _), (h c 1).trans ((dats m 0 c).arrAt_in 1 rfl _),
    (h c 2).trans ((dats m 0 c).arrAt_in 2 rfl _), (h c 3).trans ((dats m 0 c).arrAt_in 3 rfl _)⟩, hs⟩

end Cert.KernelIdeal.Moe

end
-- ==== Proof.Copy.lean ====
/-
The printed kernel and its idealization are one text, so what is proved of the one at every float instance is had of the
other.
-/
module

public import proofs.«01_k».proof.Proof.Frame
public import proofs.«01_k».proof.Proof.Gen.Kernel

@[expose] public section

noncomputable section

namespace Cert.Kernel.Moe

open Idealize.ShloMosaic Idealize.SL.Sem
open Idealize.ShloMosaic.TcCoe

variable {F : FTy → Type} [FloatOps F]

variable (m : (ℓ : Loc nD τ sig) → Buf (Elt F) ℓ) (ρ : Dev nD → PrngReg)

set_option maxRecDepth 100000 in
/-- The two bodies are the same statements. -/
theorem defs₀_eq : Cert.Kernel.defs₀ (F := F) = Cert.KernelIdeal.defs₀ (F := F) := by
  unfold Cert.Kernel.defs₀ Cert.KernelIdeal.defs₀
  refine congrArg _ ?_
  funext l x
  match l, x with
  | 0, (t, s) => rfl
  | ⟨_ + 1, h⟩, _ => exact absurd h (by simp)

/-- So are the two body tables with the pipelines'. -/
theorem defs_eq : Cert.Kernel.defs (F := F) = Cert.KernelIdeal.defs (F := F) := congrArg (Pipeline.defs pcfgs) defs₀_eq

set_option maxRecDepth 100000 in
/-- From any memory with zero counters every run of the printed kernel ends with its arguments unchanged and every semaphore
    counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  rw [defs_eq]
  exact (θ_run Cert.KernelIdeal.defs (onTc (τ := τ) (main (F := F))) ⟨m, fun _ => 0, ρ⟩).mono (fun r h => ⟨fun c => (h.1 c).2, h.2⟩)
    (Cert.KernelIdeal.Moe.run_value m ρ)

end Cert.Kernel.Moe

end
-- ==== Proof.Expert.lean ====
/-
One expert's share of the result at an index: the tokens scaled by one expert's weight, and the three shapes of product the
kernel takes with the experts' matrices.
-/
module

public import proofs.«01_k».proof.Proof.Body
public import Idealize.ShloMosaic.Lib.Pointwise

@[expose] public section

noncomputable section

namespace Cert.KernelIdeal.Moe

open Cert.KernelIdeal Cert.KernelIdeal.Gen
open Idealize.ShloMosaic

/-- The tokens, each scaled by its weight for the expert named by the word `e`. -/
def scaled (e : BitVec 32) (w : FVec Ideal S2048x16 .f32) (xb : FVec Ideal S2048x512 .bf16) : FVec Ideal S2048x512 .bf16 :=
  mulf xb (broadcastTo S2048x512 (truncf .bf16 (shapeCast S2048x1 (multiReduction .add [1] S2048
    (select (cmpi .eq (iota .tc S2048x16 32 [1] iota_S2048x16_d1_w32) (broadcast S2048x16 e)) w (broadcast S2048x16 (Scalar.ofBits (F := Ideal) .f32 0x00000000#32)))
    0x00000000#32 reduces_S2048x16_S2048 (.inl rfl) rfl) shapeCasts_S2048_S2048x1) bitsLt_bf16_f32) broadcasts_S2048x1_S2048x512)

/-- Two expert numbers are equal words only if they are equal. -/
theorem word_eq_iff (a n : Fin 16) : IntOp.cmpi .eq (BitVec.ofNat 32 a.val) (BitVec.ofNat 32 n.val) = if a = n then 1#1 else 0#1 := by
  revert a n; decide

/-- Summing a row masked to one expert reads that expert's weight. -/
theorem scaled_apply (n : Fin 16) (w : FVec Ideal S2048x16 .f32) (xb : FVec Ideal S2048x512 .bf16) (t : Fin 2048) (d : Fin 512) :
    scaled (BitVec.ofNat 32 n.val) w xb (ix2 t d) = xb (ix2 t d) * w (ix2 t n) := by
  pointwise [scaled]
  refine congrArg _ ((Finset.sum_eq_single n (fun a _ ha => ?_) (fun h => absurd (Finset.mem_univ n) h)).trans ?_)
  · rw [word_eq_iff, if_neg ha]; rfl
  · rw [word_eq_iff, if_pos rfl]; rfl

/-- Four experts' products added to what is already summed. -/
def four (a b e f : FVec Ideal S2048x512 .bf16) (V : Vec Ideal S1x4x512x1024 .bf16) (acc : FVec Ideal S2048x1024 .f32) : FVec Ideal S2048x1024 .f32 :=
  addf (shapeCast S2048x1024 acc shapeCasts_S2048x1024_S2048x1024)
    (matmul (φ₂ := .bf16) dot_S2048x2048_S2048x1024_S2048x1024_1_0_0_1_n_n none
      (concatenate S2048x2048 1 [⟨S2048x512, a⟩, ⟨S2048x512, b⟩, ⟨S2048x512, e⟩, ⟨S2048x512, f⟩] concatenates_S2048x512_S2048x512_S2048x512_S2048x512_S2048x2048_d1)
      (shapeCast S2048x1024 (shapeCast S4x512x1024 V shapeCasts_S1x4x512x1024_S4x512x1024) shapeCasts_S4x512x1024_S2048x1024)
      (constant S2048x1024 .f32 0x00000000#32))

/-- Two experts' products added to what is already summed. -/
def two (a b : FVec Ideal S2048x512 .bf16) (V : Vec Ideal S1x2x512x1024 .bf16) (acc : FVec Ideal S2048x1024 .f32) : FVec Ideal S2048x1024 .f32 :=
  k0_pay13 (concatenate S2048x1024 1 [⟨S2048x512, a⟩, ⟨S2048x512, b⟩] concatenates_S2048x512_S2048x512_S2048x1024_d1) V acc

/-- Half of one expert's product, its columns from `o`, added to what is already summed. -/
def half (o : Fin 2 → ℕ) (ho : S2048x512.Slices o S2048x256) (a : FVec Ideal S2048x512 .bf16) (V : Vec Ideal S1x1x256x1024 .bf16) (acc : FVec Ideal S2048x1024 .f32) : FVec Ideal S2048x1024 .f32 :=
  addf (shapeCast S2048x1024 acc shapeCasts_S2048x1024_S2048x1024)
    (matmul (φ₂ := .bf16) dot_S2048x256_S256x1024_S2048x1024_1_0_0_1_n_n none (extractStridedSlice S2048x256 o a ho)
      (shapeCast S256x1024 V shapeCasts_S1x1x256x1024_S256x1024) (constant S2048x1024 .f32 0x00000000#32))

/-- Four experts' products, element by element: one product of the four side by side is the sum of four. -/
theorem four_apply (a b e f : FVec Ideal S2048x512 .bf16) (V : Vec Ideal S1x4x512x1024 .bf16) (acc : FVec Ideal S2048x1024 .f32) (t : Fin 2048) (h : Fin 1024) :
    four a b e f V acc (ix2 t h) = acc (ix2 t h) + ((∑ d : Fin 512, a (ix2 t d) * V (ix4 0 0 d h)) + (∑ d : Fin 512, b (ix2 t d) * V (ix4 0 1 d h))
      + (∑ d : Fin 512, e (ix2 t d) * V (ix4 0 2 d h)) + ∑ d : Fin 512, f (ix2 t d) * V (ix4 0 3 d h)) := by
  pointwise [four]
  rw [Fin.sum_univ_tiles 4 512 rfl, Fin.sum_univ_four]
  refine congrArg _ (congrArg₂ _ (congrArg₂ _ (congrArg₂ _ ?_ ?_) ?_) ?_) <;> refine Finset.sum_congr rfl fun x _ => ?_ <;> have hx := x.isLt
  all_goals
    refine congrArg₂ _ ?_ (congrArg V ?_)
    · simp only [Fin.val_zero, Fin.val_one, Fin.val_two, show ((3 : Fin 4) : ℕ) = 3 from rfl]
      split_ifs <;> first
        | omega
        | exact congrArg (fun z => a (ix2 t z)) (Fin.ext (by dsimp only; omega))
        | exact congrArg (fun z => b (ix2 t z)) (Fin.ext (by dsimp only; omega))
        | exact congrArg (fun z => e (ix2 t z)) (Fin.ext (by dsimp only; omega))
        | exact congrArg (fun z => f (ix2 t z)) (Fin.ext (by dsimp only; omega))
    · congr 1 <;> exact Fin.ext (by simp <;> omega)

/-- Two experts' products, element by element. -/
theorem two_apply (a b : FVec Ideal S2048x512 .bf16) (V : Vec Ideal S1x2x512x1024 .bf16) (acc : FVec Ideal S2048x1024 .f32) (t : Fin 2048) (h : Fin 1024) :
    two a b V acc (ix2 t h) = acc (ix2 t h) + ((∑ d : Fin 512, a (ix2 t d) * V (ix4 0 0 d h)) + ∑ d : Fin 512, b (ix2 t d) * V (ix4 0 1 d h)) := by
  pointwise [two, k0_pay13]
  refine congrArg _ (congrArg₂ _ (Finset.sum_congr rfl fun x _ => ?_) (Finset.sum_congr rfl fun x _ => ?_)) <;>
    refine congrArg _ (congrArg V ?_)
  · congr 1 <;> exact Fin.ext (by simp)
  · congr 1 <;> exact Fin.ext (by simp <;> omega)

/-- The first half of one expert's product, element by element … -/
theorem half_apply_low (ho : S2048x512.Slices ![0, 0] S2048x256) (a : FVec Ideal S2048x512 .bf16) (V : Vec Ideal S1x1x256x1024 .bf16) (acc : FVec Ideal S2048x1024 .f32) (t : Fin 2048) (h : Fin 1024) :
    half ![0, 0] ho a V acc (ix2 t h) = acc (ix2 t h) + ∑ d : Fin 256, a (ix2 t ⟨d.val, by omega⟩) * V (ix4 0 0 d h) := by
  pointwise [half]

/-- … and the second half. -/
theorem half_apply_high (ho : S2048x512.Slices ![0, 256] S2048x256) (a : FVec Ideal S2048x512 .bf16) (V : Vec Ideal S1x1x256x1024 .bf16) (acc : FVec Ideal S2048x1024 .f32) (t : Fin 2048) (h : Fin 1024) :
    half ![0, 256] ho a V acc (ix2 t h) = acc (ix2 t h) + ∑ d : Fin 256, a (ix2 t ⟨256 + d.val, by omega⟩) * V (ix4 0 0 d h) := by
  pointwise [half]

end Cert.KernelIdeal.Moe

end
-- ==== Proof.Total.lean ====
/-
What the kernel leaves in a device's result, at an index: the sum over every expert of the mesh of that expert's product
with the scaled tokens.
-/
module

public import proofs.«01_k».proof.Proof.Expert

@[expose] public section

noncomputable section

namespace Cert.KernelIdeal.Moe

open Cert.KernelIdeal Cert.KernelIdeal.Gen
open Idealize.ShloMosaic

variable (W : Dev nD → Vec Ideal S4x512x1024 .bf16) (c : Dev nD) (w : FVec Ideal S2048x16 .f32) (xb : FVec Ideal S2048x512 .bf16)

/-- Reading a box of the gathered experts reads the device that owns the slot. -/
theorem cread_apply (o sz : Fin 4 → ℕ) (h : ∀ a, o a + sz a ≤ S4x4x512x1024.size a) (i : (⟨4, sz⟩ : Shape).Idx) (D : Dev nD) (j : Fin 4) (d : Fin 512) (k : Fin 1024)
    (hD : slotDev c (o 0 + (i 0).val) = D) (hj : o 1 + (i 1).val = j.val) (hd : o 2 + (i 2).val = d.val) (hk : o 3 + (i 3).val = k.val) :
    cread W c o sz h i = W D (ix3 j d k) := by
  have e (a : Fin 4) : (((Rect.unit (s := S4x4x512x1024) o sz h).emb i) a).val = o a + (i a).val := by
    rw [Rect.emb_apply]; simp
  show commOf W c ((Rect.unit (s := S4x4x512x1024) o sz h).emb i) = _
  unfold commOf
  rw [e 0, hD]
  congr 1
  exact congr (congr (congrArg ix3 (Fin.ext ((e 1).trans hj))) (Fin.ext ((e 2).trans hd))) (Fin.ext ((e 3).trans hk))

/-- The number, among all sixteen, of device `D`'s expert `j`. -/
def ex (D : Dev nD) (j : Fin 4) : Fin 16 := ⟨4 * D.val + j.val, by have h : D.val < 4 := D.isLt; have := j.isLt; omega⟩

/-- One expert's product with the tokens scaled for it. -/
def share (t : Fin 2048) (h : Fin 1024) (D : Dev nD) (j : Fin 4) : EReal :=
  ∑ d : Fin 512, xb (ix2 t d) * w (ix2 t (ex D j)) * W D (ix3 j d h)

/-- The first 256 columns' part of it … -/
def shareLow (t : Fin 2048) (h : Fin 1024) (D : Dev nD) (j : Fin 4) : EReal :=
  ∑ d : Fin 256, xb (ix2 t ⟨d.val, by omega⟩) * w (ix2 t (ex D j)) * W D (ix3 j ⟨d.val, by omega⟩ h)

/-- … and the other 256 columns'. -/
def shareHigh (t : Fin 2048) (h : Fin 1024) (D : Dev nD) (j : Fin 4) : EReal :=
  ∑ d : Fin 256, xb (ix2 t ⟨256 + d.val, by omega⟩) * w (ix2 t (ex D j)) * W D (ix3 j ⟨256 + d.val, by omega⟩ h)

/-- The two halves are the whole. -/
theorem share_halves (t : Fin 2048) (h : Fin 1024) (D : Dev nD) (j : Fin 4) : shareLow W w xb t h D j + shareHigh W w xb t h D j = share W w xb t h D j :=
  (Fin.sum_univ_two_halves 256 256 rfl fun d : Fin 512 => xb (ix2 t d) * w (ix2 t (ex D j)) * W D (ix3 j d h)).symm

/-- The kernel's words for the owners of the four slots. -/
def ownerWord (s : Fin 4) : BitVec 32 := match s with | 0 => w2 c | 1 => w4 c | 2 => w6 c | 3 => w8 c

/-- The kernel's word for the `j`th expert in slot `s` is that expert's number among all sixteen. -/
theorem word_eq (s j : Fin 4) : Scalar.addi (Scalar.muli (ownerWord c s) 4#32) (BitVec.ofNat 32 j.val) = BitVec.ofNat 32 (ex (slotDev c s.val) j).val := by
  revert c s j; decide

/-- The tokens scaled for the `j`th expert in slot `s`. -/
def scaledAt (s j : Fin 4) : FVec Ideal S2048x512 .bf16 := scaled (Scalar.addi (Scalar.muli (ownerWord c s) 4#32) (BitVec.ofNat 32 j.val)) w xb

/-- So each token is scaled by its weight for that expert. -/
theorem scaledAt_apply (s j : Fin 4) (t : Fin 2048) (d : Fin 512) : scaledAt c w xb s j (ix2 t d) = xb (ix2 t d) * w (ix2 t (ex (slotDev c s.val) j)) := by
  unfold scaledAt; rw [word_eq]; exact scaled_apply _ _ _ _ _

/-- The device's own four experts' products are added … -/
theorem four_share (hb) (acc : FVec Ideal S2048x1024 .f32) (t : Fin 2048) (h : Fin 1024) :
    four (scaledAt c w xb 0 0) (scaledAt c w xb 0 1) (scaledAt c w xb 0 2) (scaledAt c w xb 0 3) (cread W c ![0, 0, 0, 0] S1x4x512x1024.size hb) acc (ix2 t h)
      = acc (ix2 t h) + (share W w xb t h c 0 + share W w xb t h c 1 + share W w xb t h c 2 + share W w xb t h c 3) := by
  rw [four_apply]
  refine congrArg _ (congrArg₂ _ (congrArg₂ _ (congrArg₂ _ ?_ ?_) ?_) ?_) <;> refine Finset.sum_congr rfl fun d _ => ?_ <;>
    exact congrArg₂ _ (scaledAt_apply c w xb 0 _ t d) (cread_apply W c _ _ _ _ _ _ d h rfl rfl (Nat.zero_add _) (Nat.zero_add _))

/-- … two experts' of a slot … -/
theorem two_share (s j k : Fin 4) (hjk : k.val = j.val + 1) (hb) (acc : FVec Ideal S2048x1024 .f32) (t : Fin 2048) (h : Fin 1024) :
    two (scaledAt c w xb s j) (scaledAt c w xb s k) (cread W c ![s.val, j.val, 0, 0] S1x2x512x1024.size hb) acc (ix2 t h)
      = acc (ix2 t h) + (share W w xb t h (slotDev c s.val) j + share W w xb t h (slotDev c s.val) k) := by
  rw [two_apply]
  refine congrArg _ (congrArg₂ _ ?_ ?_) <;> refine Finset.sum_congr rfl fun d _ => ?_
  · exact congrArg₂ _ (scaledAt_apply c w xb s j t d) (cread_apply W c _ _ _ _ _ j d h rfl rfl (Nat.zero_add _) (Nat.zero_add _))
  · exact congrArg₂ _ (scaledAt_apply c w xb s k t d) (cread_apply W c _ _ _ _ _ k d h rfl hjk.symm (Nat.zero_add _) (Nat.zero_add _))

/-- … the first half of one expert's of the opposite device … -/
theorem low_share (j : Fin 4) (ho) (hb) (acc : FVec Ideal S2048x1024 .f32) (t : Fin 2048) (h : Fin 1024) :
    half ![0, 0] ho (scaledAt c w xb 3 j) (cread W c ![3, j.val, 0, 0] S1x1x256x1024.size hb) acc (ix2 t h)
      = acc (ix2 t h) + shareLow W w xb t h (slotDev c 3) j := by
  rw [half_apply_low]
  refine congrArg _ (Finset.sum_congr rfl fun d _ => ?_)
  exact congrArg₂ _ (scaledAt_apply c w xb 3 j t _) (cread_apply W c _ _ _ _ _ j _ h rfl rfl (Nat.zero_add _) (Nat.zero_add _))

/-- … and the second half. -/
theorem high_share (j : Fin 4) (ho) (hb) (acc : FVec Ideal S2048x1024 .f32) (t : Fin 2048) (h : Fin 1024) :
    half ![0, 256] ho (scaledAt c w xb 3 j) (cread W c ![3, j.val, 256, 0] S1x1x256x1024.size hb) acc (ix2 t h)
      = acc (ix2 t h) + shareHigh W w xb t h (slotDev c 3) j := by
  rw [half_apply_high]
  refine congrArg _ (Finset.sum_congr rfl fun d _ => ?_)
  exact congrArg₂ _ (scaledAt_apply c w xb 3 j t _) (cread_apply W c _ _ _ _ _ j _ h rfl rfl rfl (Nat.zero_add _))

/-- The kernel's thirteen additions, in its own order. -/
theorem sum13_steps (t : Fin 2048) (h : Fin 1024) : sum13 W c w xb (ix2 t h) =
    0 + (share W w xb t h c 0 + share W w xb t h c 1 + share W w xb t h c 2 + share W w xb t h c 3)
      + (share W w xb t h (slotDev c 1) 0 + share W w xb t h (slotDev c 1) 1) + (share W w xb t h (slotDev c 2) 2 + share W w xb t h (slotDev c 2) 3)
      + (share W w xb t h (slotDev c 1) 2 + share W w xb t h (slotDev c 1) 3) + (share W w xb t h (slotDev c 2) 0 + share W w xb t h (slotDev c 2) 1)
      + shareLow W w xb t h (slotDev c 3) 0 + shareLow W w xb t h (slotDev c 3) 3 + shareHigh W w xb t h (slotDev c 3) 0 + shareHigh W w xb t h (slotDev c 3) 3
      + shareLow W w xb t h (slotDev c 3) 1 + shareLow W w xb t h (slotDev c 3) 2 + shareHigh W w xb t h (slotDev c 3) 1 + shareHigh W w xb t h (slotDev c 3) 2 := by
  refine (high_share W c w xb 2 _ _ _ t h).trans (congrArg (· + _) ?_)
  refine (high_share W c w xb 1 _ _ _ t h).trans (congrArg (· + _) ?_)
  refine (low_share W c w xb 2 _ _ _ t h).trans (congrArg (· + _) ?_)
  refine (low_share W c w xb 1 _ _ _ t h).trans (congrArg (· + _) ?_)
  refine (high_share W c w xb 3 _ _ _ t h).trans (congrArg (· + _) ?_)
  refine (high_share W c w xb 0 _ _ _ t h).trans (congrArg (· + _) ?_)
  refine (low_share W c w xb 3 _ _ _ t h).trans (congrArg (· + _) ?_)
  refine (low_share W c w xb 0 _ _ _ t h).trans (congrArg (· + _) ?_)
  refine (two_share W c w xb 2 0 1 rfl _ _ t h).trans (congrArg (· + _) ?_)
  refine (two_share W c w xb 1 2 3 rfl _ _ t h).trans (congrArg (· + _) ?_)
  refine (two_share W c w xb 2 2 3 rfl _ _ t h).trans (congrArg (· + _) ?_)
  refine (two_share W c w xb 1 0 1 rfl _ _ t h).trans (congrArg (· + _) ?_)
  refine (four_share W c w xb _ _ t h).trans (congrArg (· + _) ?_)
  exact Ideal.ofBits_zero_f32

/-- The whole sum, device by device. -/
theorem sum13_apply (t : Fin 2048) (h : Fin 1024) : sum13 W c w xb (ix2 t h) = ∑ D : Dev nD, ∑ j : Fin 4, share W w xb t h D j := by
  rw [sum13_steps]
  have e : ∑ D : Dev nD, ∑ j : Fin 4, share W w xb t h D j = ∑ s : Fin 4, ∑ j : Fin 4, share W w xb t h (slotDev c s.val) j := by
    refine (Equiv.sum_comp (Equiv.ofBijective (fun s : Fin 4 => slotDev c s.val) ?_) (fun D : Dev nD => ∑ j : Fin 4, share W w xb t h D j)).symm
    revert c; decide
  rw [e]
  simp only [Fin.sum_univ_four, ← share_halves W w xb t h (slotDev c 3)]
  show _ = share W w xb t h c 0 + share W w xb t h c 1 + share W w xb t h c 2 + share W w xb t h c 3
    + (share W w xb t h (slotDev c 1) 0 + share W w xb t h (slotDev c 1) 1 + share W w xb t h (slotDev c 1) 2 + share W w xb t h (slotDev c 1) 3)
    + (share W w xb t h (slotDev c 2) 0 + share W w xb t h (slotDev c 2) 1 + share W w xb t h (slotDev c 2) 2 + share W w xb t h (slotDev c 2) 3)
    + (share W w xb t h (slotDev c 3) 0 + share W w xb t h (slotDev c 3) 1 + share W w xb t h (slotDev c 3) 2 + share W w xb t h (slotDev c 3) 3)
  simp only [← share_halves W w xb t h (slotDev c 3)]
  abel

end Cert.KernelIdeal.Moe

end
-- ==== Proof.Row.lean ====
/-
One token's row of the layer, in plain arithmetic of the extended reals: the router's probabilities, the kernel's weights
(every expert's probability masked to the two named, over the masked sum) and the reference's combination (the two named
experts' results, each times its probability over the two probabilities' sum), and that the two agree.
-/
module

public import Idealize.ShloMosaic.PureOps.Ideal
public import Idealize.ShloMosaic.Lib.Pointwise

@[expose] public section

noncomputable section

namespace Cert.Moe

open Idealize.ShloMosaic

/-! ## The functions -/

/-- The largest score. -/
def top (s : Fin 16 → EReal) : EReal := Finset.univ.fold max (Ideal.ofBits .f32 0xFF800000#32) s

/-- The router's probability of an expert. -/
def prob (s : Fin 16 → EReal) (e : Fin 16) : EReal := Ideal.div (Ideal.exp (s e - top s)) (∑ k, Ideal.exp (s k - top s))

/-- The probability of an expert if the token names it, else nothing. -/
def gated (i0 i1 : BitVec 32) (p : Fin 16 → EReal) (e : Fin 16) : EReal :=
  Scalar.select (IntOp.ori (IntOp.cmpi .eq i0 (BitVec.ofNat 32 e.val)) (IntOp.cmpi .eq i1 (BitVec.ofNat 32 e.val))) (p e) 0

/-- The kernel's weight of an expert. -/
def weight (i0 i1 : BitVec 32) (p : Fin 16 → EReal) (e : Fin 16) : EReal := Ideal.div (gated i0 i1 p e) (∑ k, gated i0 i1 p k)

/-- One where the word names the expert, else zero. -/
def pick (i : BitVec 32) (e : Fin 16) : EReal := FloatOps.uitofp (F := Ideal) .f32 (IntOp.cmpi .eq i (BitVec.ofNat 32 e.val))

/-- What the word names among sixteen values. -/
def chosen (i : BitVec 32) (f : Fin 16 → EReal) : EReal := ∑ e, pick i e * f e

/-- The reference's combination of the experts' results `y`. -/
def plain (i0 i1 : BitVec 32) (p y : Fin 16 → EReal) : EReal :=
  Ideal.div (chosen i0 p) (chosen i0 p + chosen i1 p) * chosen i0 y + Ideal.div (chosen i1 p) (chosen i0 p + chosen i1 p) * chosen i1 y

/-! ## Real numbers among the extended -/

/-- A sum of reals is real. -/
theorem sum_real {ι : Type} (s : Finset ι) (f : ι → EReal) (r : ι → ℝ) (h : ∀ i, f i = (r i : EReal)) : ∑ i ∈ s, f i = ((∑ i ∈ s, r i : ℝ) : EReal) := by
  classical
  induction s using Finset.induction with
  | empty => simp
  | insert a s ha ih => rw [Finset.sum_insert ha, Finset.sum_insert ha, ih, h, EReal.coe_add]

/-- A quotient of reals whose divisor is not zero is real. -/
theorem div_real (a b : ℝ) (h : b ≠ 0) : Ideal.div (a : EReal) (b : EReal) = ((a / b : ℝ) : EReal) := by
  rw [Ideal.div_coe h, ← EReal.coe_mul, mul_one_div]

/-- A real that is not negative distributes over any sum. -/
theorem mul_sum_real {ι : Type} (s : Finset ι) (f : ι → EReal) (r : ℝ) (h : 0 ≤ r) : (r : EReal) * ∑ i ∈ s, f i = ∑ i ∈ s, (r : EReal) * f i := by
  classical
  induction s using Finset.induction with
  | empty => simp
  | insert a s ha ih =>
    rw [Finset.sum_insert ha, Finset.sum_insert ha, ← ih]
    exact EReal.left_distrib_of_nonneg_of_ne_top (by exact_mod_cast h) (EReal.coe_ne_top r) _ _

/-- The word with which the largest score begins is minus infinity. -/
theorem ofBits_bot : Ideal.ofBits .f32 0xFF800000#32 = ⊥ := by simp [Ideal.ofBits, Ideal.ieee]

/-- The largest score is one of the scores. -/
theorem top_mem (s : Fin 16 → EReal) : ∃ k, top s = s k := by
  obtain ⟨k, -, hk⟩ := Finset.exists_mem_eq_sup Finset.univ ⟨0, Finset.mem_univ _⟩ s
  refine ⟨k, Eq.trans ?_ hk⟩
  unfold top
  rw [ofBits_bot]; rfl

/-- Of real scores every probability is a positive real. -/
theorem prob_real (s : Fin 16 → EReal) (r : Fin 16 → ℝ) (h : ∀ e, s e = (r e : EReal)) : ∃ q : Fin 16 → ℝ, ∀ e, 0 < q e ∧ prob s e = (q e : EReal) := by
  obtain ⟨k, hk⟩ := top_mem s
  have hx (e : Fin 16) : Ideal.exp (s e - top s) = ((Real.exp (r e - r k) : ℝ) : EReal) := by
    rw [hk, h, h, ← EReal.coe_sub]; rfl
  have hs : (0 : ℝ) < ∑ e, Real.exp (r e - r k) := Finset.sum_pos (fun e _ => Real.exp_pos _) ⟨0, Finset.mem_univ _⟩
  refine ⟨fun e => Real.exp (r e - r k) / ∑ e, Real.exp (r e - r k), fun e => ⟨div_pos (Real.exp_pos _) hs, ?_⟩⟩
  unfold prob
  rw [sum_real _ _ _ hx, hx, div_real _ _ hs.ne']

/-! ## Which experts a token names -/

/-- Comparing two words for equality. -/
theorem cmpi_eq (i j : BitVec 32) : IntOp.cmpi .eq i j = if i = j then 1#1 else 0#1 := by
  by_cases h : i = j
  · subst h; simp [IntOp.cmpi]
  · rw [if_neg h]
    show BitVec.ofBool (i == j) = 0#1
    rw [beq_eq_false_iff_ne.2 h]; rfl

/-- Different experts have different words. -/
theorem word_inj (a b : Fin 16) : BitVec.ofNat 32 a.val = BitVec.ofNat 32 b.val ↔ a = b := by revert a b; decide

/-- A probability is kept where the token names the expert, once or twice. -/
theorem gated_eq (i0 i1 : BitVec 32) (p : Fin 16 → EReal) (e : Fin 16) :
    gated i0 i1 p e = if i0 = BitVec.ofNat 32 e.val ∨ i1 = BitVec.ofNat 32 e.val then p e else 0 := by
  unfold gated
  rw [cmpi_eq, cmpi_eq]
  by_cases h0 : i0 = BitVec.ofNat 32 e.val <;> by_cases h1 : i1 = BitVec.ofNat 32 e.val <;> simp only [h0, h1, if_true, if_false, true_or, or_true, or_self] <;> rfl

/-- One where the word names the expert, else zero. -/
theorem pick_eq (i : BitVec 32) (e : Fin 16) : pick i e = if i = BitVec.ofNat 32 e.val then 1 else 0 := by
  unfold pick
  rw [cmpi_eq]
  split_ifs
  · show (((1#1 : BitVec 1).toNat : ℝ) : EReal) = 1; norm_num
  · show (((0#1 : BitVec 1).toNat : ℝ) : EReal) = 0; norm_num

/-- A word that names an expert chooses its value … -/
theorem chosen_named (a : Fin 16) (f : Fin 16 → EReal) : chosen (BitVec.ofNat 32 a.val) f = f a := by
  unfold chosen
  refine (Finset.sum_eq_single a (fun b _ hb => ?_) (fun h => absurd (Finset.mem_univ a) h)).trans ?_
  · rw [pick_eq, if_neg fun h => hb ((word_inj a b).1 h).symm, zero_mul]
  · rw [pick_eq, if_pos rfl, one_mul]

/-- … and one that names none chooses nothing. -/
theorem chosen_none (i : BitVec 32) (h : ∀ a : Fin 16, i ≠ BitVec.ofNat 32 a.val) (f : Fin 16 → EReal) : chosen i f = 0 :=
  Finset.sum_eq_zero fun e _ => by rw [pick_eq, if_neg (h e), zero_mul]

/-- What vanishes at every expert but `a` sums to its value at `a`. -/
theorem sum_one (f : Fin 16 → EReal) (a : Fin 16) (h : ∀ e, e ≠ a → f e = 0) : ∑ e, f e = f a :=
  Finset.sum_eq_single a (fun b _ hb => h b hb) fun h => absurd (Finset.mem_univ a) h

/-- Nothing divided by a positive real is nothing. -/
theorem div_zero_real (b : ℝ) (h : 0 < b) : Ideal.div 0 (b : EReal) = 0 := by
  have := div_real 0 b h.ne'
  rwa [zero_div, EReal.coe_zero] at this

/-! ## The two combinations -/

variable (i0 i1 : BitVec 32) (p y : Fin 16 → EReal) (q : Fin 16 → ℝ)

/-- A token whose only named expert is `a`, named once or twice: the kernel's combination is that expert's result. -/
theorem combine_one (hq : ∀ e, 0 < q e ∧ p e = (q e : EReal)) (a : Fin 16)
    (h : ∀ e : Fin 16, (i0 = BitVec.ofNat 32 e.val ∨ i1 = BitVec.ofNat 32 e.val) ↔ e = a) :
    (∀ e, ∃ r : ℝ, 0 ≤ r ∧ weight i0 i1 p e = r) ∧ ∑ e, weight i0 i1 p e * y e = y a := by
  have hg (e : Fin 16) : gated i0 i1 p e = if e = a then (q a : EReal) else 0 := by
    rw [gated_eq]
    by_cases he : e = a
    · rw [if_pos ((h e).2 he), if_pos he, he, (hq a).2]
    · rw [if_neg fun hh => he ((h e).1 hh), if_neg he]
  have hs : ∑ k, gated i0 i1 p k = (q a : EReal) := (sum_one _ a fun e he => by rw [hg, if_neg he]).trans (by rw [hg, if_pos rfl])
  have hw (e : Fin 16) : weight i0 i1 p e = if e = a then 1 else 0 := by
    unfold weight
    rw [hs, hg]
    by_cases he : e = a
    · rw [if_pos he, if_pos he, div_real _ _ (hq a).1.ne', div_self (hq a).1.ne', EReal.coe_one]
    · rw [if_neg he, if_neg he, div_zero_real _ (hq a).1]
  refine ⟨fun e => ?_, (sum_one _ a fun e he => by rw [hw, if_neg he, zero_mul]).trans (by rw [hw, if_pos rfl, one_mul])⟩
  rw [hw]
  split_ifs
  · exact ⟨1, zero_le_one, rfl⟩
  · exact ⟨0, le_rfl, rfl⟩

/-- A token that names two experts: each result times its probability over the two's sum. -/
theorem combine_two (hq : ∀ e, 0 < q e ∧ p e = (q e : EReal)) (a b : Fin 16) (hab : a ≠ b)
    (h0 : i0 = BitVec.ofNat 32 a.val) (h1 : i1 = BitVec.ofNat 32 b.val) :
    (∀ e, ∃ r : ℝ, 0 ≤ r ∧ weight i0 i1 p e = r) ∧ ∑ e, weight i0 i1 p e * y e = Ideal.div (p a) (p a + p b) * y a + Ideal.div (p b) (p a + p b) * y b := by
  subst h0 h1
  have hg (e : Fin 16) : gated (BitVec.ofNat 32 a.val) (BitVec.ofNat 32 b.val) p e = if e = a ∨ e = b then p e else 0 := by
    rw [gated_eq]
    simp only [word_inj, eq_comm]
  have hs : ∑ k, gated (BitVec.ofNat 32 a.val) (BitVec.ofNat 32 b.val) p k = p a + p b := by
    rw [Finset.sum_eq_add a b hab (fun e _ he => by rw [hg, if_neg (by tauto)]) (fun h => absurd (Finset.mem_univ _) h) (fun h => absurd (Finset.mem_univ _) h),
      hg, hg, if_pos (.inl rfl), if_pos (.inr rfl)]
  have hr : p a + p b = ((q a + q b : ℝ) : EReal) := by rw [(hq a).2, (hq b).2, EReal.coe_add]
  have hp : 0 < q a + q b := add_pos (hq a).1 (hq b).1
  have hw (e : Fin 16) : weight (BitVec.ofNat 32 a.val) (BitVec.ofNat 32 b.val) p e = if e = a ∨ e = b then Ideal.div (p e) (p a + p b) else 0 := by
    unfold weight
    rw [hs, hg]
    split_ifs
    · rfl
    · rw [hr, div_zero_real _ hp]
  refine ⟨fun e => ?_, ?_⟩
  · rw [hw, hr, (hq e).2, div_real _ _ hp.ne']
    split_ifs
    · exact ⟨_, (div_pos (hq e).1 hp).le, rfl⟩
    · exact ⟨0, le_rfl, rfl⟩
  · rw [Finset.sum_eq_add a b hab (fun e _ he => by rw [hw, if_neg (by tauto), zero_mul]) (fun h => absurd (Finset.mem_univ _) h) (fun h => absurd (Finset.mem_univ _) h),
      hw, hw, if_pos (.inl rfl), if_pos (.inr rfl)]

/-- For a token that names at least one expert there is, the kernel's combination is the reference's. -/
theorem combine (hq : ∀ e, 0 < q e ∧ p e = (q e : EReal)) (hn : ∃ a : Fin 16, i0 = BitVec.ofNat 32 a.val ∨ i1 = BitVec.ofNat 32 a.val) :
    (∀ e, ∃ r : ℝ, 0 ≤ r ∧ weight i0 i1 p e = r) ∧ ∑ e, weight i0 i1 p e * y e = plain i0 i1 p y := by
  have hhalf (a : Fin 16) : Ideal.div (p a) (p a + 0) * y a = y a := by
    rw [add_zero, (hq a).2, div_real _ _ (hq a).1.ne', div_self (hq a).1.ne', EReal.coe_one, one_mul]
  by_cases c0 : ∃ a : Fin 16, i0 = BitVec.ofNat 32 a.val
  · obtain ⟨a, rfl⟩ := c0
    by_cases c1 : ∃ b : Fin 16, i1 = BitVec.ofNat 32 b.val
    · obtain ⟨b, rfl⟩ := c1
      by_cases hab : a = b
      · subst hab
        obtain ⟨hw, hs⟩ := combine_one (BitVec.ofNat 32 a.val) (BitVec.ofNat 32 a.val) p y q hq a fun e => by rw [or_self, word_inj, eq_comm]
        refine ⟨hw, hs.trans ?_⟩
        unfold plain
        have ha := (hq a).1
        rw [chosen_named, chosen_named, (hq a).2, ← EReal.coe_add, div_real _ _ (by linarith)]
        have hr : q a / (q a + q a) = 1 / 2 := by field_simp; ring
        have h2 : (0 : EReal) ≤ ((1 / 2 : ℝ) : EReal) := by exact_mod_cast (by norm_num : (0 : ℝ) ≤ 1 / 2)
        rw [hr, ← EReal.right_distrib_of_nonneg h2 h2, ← EReal.coe_add]
        norm_num
      · obtain ⟨hw, hs⟩ := combine_two _ _ p y q hq a b hab rfl rfl
        refine ⟨hw, hs.trans ?_⟩
        unfold plain
        rw [chosen_named, chosen_named, chosen_named, chosen_named]
    · push Not at c1
      obtain ⟨hw, hs⟩ := combine_one (BitVec.ofNat 32 a.val) i1 p y q hq a fun e => by
        rw [or_iff_left (c1 e), word_inj, eq_comm]
      refine ⟨hw, hs.trans ?_⟩
      unfold plain
      rw [chosen_named, chosen_named, chosen_none i1 c1, chosen_none i1 c1, mul_zero, add_zero, hhalf]
  · push Not at c0
    obtain ⟨b, hb⟩ := hn
    obtain rfl := hb.resolve_left (c0 b)
    obtain ⟨hw, hs⟩ := combine_one i0 (BitVec.ofNat 32 b.val) p y q hq b fun e => by
      rw [or_iff_right (c0 e), word_inj, eq_comm]
    refine ⟨hw, hs.trans ?_⟩
    unfold plain
    have := hhalf b
    rw [add_zero] at this
    rw [chosen_named, chosen_named, chosen_none i0 c0, chosen_none i0 c0, mul_zero, zero_add, zero_add, this]

end Cert.Moe

end
-- ==== Proof.Gate.lean ====
/-
A token's weight for an expert, read at an index.
-/
module

public import proofs.«01_k».proof.Proof.Body
public import proofs.«01_k».proof.Proof.Row

@[expose] public section

noncomputable section

namespace Cert.KernelIdeal.Moe

open Cert.KernelIdeal Cert.KernelIdeal.Gen
open Idealize.ShloMosaic

/-- The two columns of the routing table. -/
theorem col0_apply (I : Vec Ideal S2048x2 .i32) (t : Fin 2048) : col0 I (ix2 t 0) = I (ix2 t 0) := by
  show I _ = I _
  congr 1
  funext a; apply Fin.ext
  refine (Rect.emb_apply _ _ _).trans ?_
  fin_cases a <;> simp

/-- The second column. -/
theorem col1_apply (I : Vec Ideal S2048x2 .i32) (t : Fin 2048) : col1 I (ix2 t 0) = I (ix2 t 1) := by
  show I _ = I _
  congr 1
  funext a; apply Fin.ext
  refine (Rect.emb_apply _ _ _).trans ?_
  fin_cases a <;> simp

/-- The weights the kernel keeps are the masked probabilities over their sum. -/
theorem wgt_apply (X : FVec Ideal S2048x512 .bf16) (R : FVec Ideal S512x16 .bf16) (I : IVec S2048x2 32) (t : Fin 2048) (n : Fin 16) :
    wgt (F := Ideal) X R I (ix2 t n) = Cert.Moe.weight (I (ix2 t 0)) (I (ix2 t 1)) (Cert.Moe.prob fun e => ∑ d : Fin 512, X (ix2 t d) * R (ix2 d e)) n := by
  pointwise [wgt, k0_pay2, k0_pay3, k0_pay4, col0_apply, col1_apply]
  rfl

end Cert.KernelIdeal.Moe

end
-- ==== Proof.Plain.lean ====
/-
The reference's result at an index: its row's combination of the two named experts.
-/
module

public import proofs.«01_k».proof.Proof.Gen.ReferenceIdeal
public import proofs.«01_k».proof.Proof.Gen.ReferenceIdeal.Run
public import proofs.«01_k».proof.Proof.Row

@[expose] public section

noncomputable section

namespace Cert.ReferenceIdeal.Moe

open Cert.ReferenceIdeal Cert.ReferenceIdeal.Gen Cert.ReferenceIdeal.Value
open Idealize.ShloMosaic Idealize.ShloMosaic.TcCoe

/-- The reference's result at an index. -/
theorem res_apply (m : (ℓ : Loc nD τ sig) → Buf (Elt Ideal) ℓ) (c : Dev nD) (X : FVec Ideal S8192x512 .bf16) (R : FVec Ideal S512x16 .bf16) (I : IVec S8192x2 32)
    (W : FVec Ideal S16x512x1024 .bf16) (hX : m (c.tc.loc main_arg0) = X) (hR : m (c.tc.loc main_arg1) = R) (hI : m (c.tc.loc main_arg2) = I)
    (hW : m (c.tc.loc main_arg3) = W) (t : Fin 8192) (h : Fin 1024) :
    (res_main_v41 m c : FVec Ideal S8192x1024 .f32) (ix2 t h)
      = Cert.Moe.plain (I (ix2 t 0)) (I (ix2 t 1)) (Cert.Moe.prob fun e => ∑ d : Fin 512, X (ix2 t d) * R (ix2 d e)) (fun e => ∑ d : Fin 512, X (ix2 t d) * W (ix3 e d h)) := by
  subst hX hR hI hW
  pointwise [res_main_v41]
  rfl

end Cert.ReferenceIdeal.Moe

end
-- ==== Proof.Pre.lean ====
/-
What the precondition says of a device's arguments: its tokens and router are real numbers, and each of its tokens names an
expert there is.
-/
module

public import proofs.«01_k».proof.Proof.Gen.Pre_routed_finite_KernelIdeal
public import proofs.«01_k».proof.Proof.Row

@[expose] public section

noncomputable section

namespace Cert.Pre_routed_finite_KernelIdeal.Moe

open Cert.Pre_routed_finite_KernelIdeal Cert.Pre_routed_finite_KernelIdeal.Gen
open Idealize.ShloMosaic

/-- A number whose magnitude is less than infinity is real. -/
theorem real_of_abs (x : EReal) (h : BitVec.ofBool (decide (max x (-x) < Ideal.ofBits .bf16 0x7F80#16)) = 1#1) : ∃ r : ℝ, x = r := by
  have top : Ideal.ofBits .bf16 0x7F80#16 = ⊤ := by simp [Ideal.ofBits, Ideal.ieee]
  rw [top] at h
  induction x using EReal.rec with
  | bot => simp at h
  | top => simp at h
  | coe r => exact ⟨r, rfl⟩

/-- Of two bits whose conjunction is set, both are. -/
theorem and_set (a b : BitVec 1) (h : IntOp.andi a b = 1#1) : a = 1#1 ∧ b = 1#1 := by revert a b; decide

/-- Of two bits whose disjunction is set, one is. -/
theorem or_set (a b : BitVec 1) (h : IntOp.ori a b = 1#1) : a = 1#1 ∨ b = 1#1 := by revert a b; decide

/-- A set bit is a truth. -/
theorem ofBool_set (b : Bool) (h : BitVec.ofBool b = 1#1) : b = true := by revert b; decide

/-- A word from zero below sixteen names an expert. -/
theorem names (i : BitVec 32) (h : IntOp.andi (IntOp.cmpi .sge i 0#32) (IntOp.cmpi .slt i 16#32) = 1#1) : ∃ a : Fin 16, i = BitVec.ofNat 32 a.val := by
  obtain ⟨h0, h1⟩ := and_set _ _ h
  have h0 : (0#32).sle i = true := ofBool_set _ h0
  have h1 : i.slt 16#32 = true := ofBool_set _ h1
  rw [BitVec.sle_iff_toInt_le] at h0
  rw [BitVec.slt_iff_toInt_lt] at h1
  have z : (0#32 : BitVec 32).toInt = 0 := by decide
  have s : (16#32 : BitVec 32).toInt = 16 := by decide
  rw [z] at h0
  rw [s] at h1
  have hi := i.isLt
  have hn : i.toNat < 16 := by
    rw [BitVec.toInt_eq_toNat_cond] at h0 h1
    split_ifs at h0 h1 <;> omega
  exact ⟨⟨i.toNat, hn⟩, by simp⟩

variable (X : FVec Ideal S2048x512 .bf16) (R : FVec Ideal S512x16 .bf16) (I : IVec S2048x2 32) (W : FVec Ideal S4x512x1024 .bf16)

/-- The tokens are real. -/
theorem tokens_real (h : (fn (F := Ideal) X R I W).1 = fun _ => 1#1) (t : Fin 2048) (d : Fin 512) : ∃ r : ℝ, X (ix2 t d) = r := by
  have := congrFun h (ix2 t d)
  pointwise [fn, fn_part1] at this
  exact real_of_abs _ this

/-- The router is real. -/
theorem router_real (h : (fn (F := Ideal) X R I W).2.1 = fun _ => 1#1) (d : Fin 512) (e : Fin 16) : ∃ r : ℝ, R (ix2 d e) = r := by
  have := congrFun h (ix2 d e)
  pointwise [fn, fn_part1] at this
  exact real_of_abs _ this

/-- Each token names an expert. -/
theorem named (h : (fn (F := Ideal) X R I W).2.2 = fun _ => 1#1) (t : Fin 2048) :
    ∃ a : Fin 16, I (ix2 t 0) = BitVec.ofNat 32 a.val ∨ I (ix2 t 1) = BitVec.ofNat 32 a.val := by
  have := congrFun h (ix2 t 0)
  pointwise [fn, fn_part1] at this
  rcases or_set _ _ this with h | h
  · obtain ⟨a, ha⟩ := names _ h
    exact ⟨a, .inl ha⟩
  · obtain ⟨a, ha⟩ := names _ h
    exact ⟨a, .inr ha⟩

end Cert.Pre_routed_finite_KernelIdeal.Moe

end
-- ==== Proof.Equation.lean ====
/-
The kernel's result on each device is that device's rows of the reference's result.
-/
module

public import proofs.«01_k».proof.Proof.Frame
public import proofs.«01_k».proof.Proof.Total
public import proofs.«01_k».proof.Proof.Gate
public import proofs.«01_k».proof.Proof.Plain
public import proofs.«01_k».proof.Proof.Pre
public import Idealize.ShloMosaic.Lib.LayoutAt

@[expose] public section

noncomputable section

namespace Cert.KernelIdeal.Moe

open Cert.KernelIdeal Cert.KernelIdeal.Gen
open Idealize.ShloMosaic

/-- The number, among the tokens of all devices, of device `c`'s token `t`. -/
def tok (c : Dev nD) (t : Fin 2048) : Fin 8192 := ⟨c.val * 2048 + t.val, by have h : c.val < 4 := c.isLt; omega⟩

/-- Two results that agree at every token and column are the same. -/
theorem result_ext (f g : S2048x1024.Idx → EReal) (h : ∀ (t : Fin 2048) (k : Fin 1024), f (ix2 t k) = g (ix2 t k)) : f = g := by
  funext i
  rw [ValueIdx.eq_ix2 i, ← ix2_eq_valueIdx]
  exact h _ _

/-- A device's rows of an array cut by rows. -/
theorem rows_apply {n : ℕ} {α : Type} (c : Dev nD) (v : (⟨2, ![8192, n]⟩ : Shape).Idx → α) (h : Layout.Tiles ⟨2, ![2048, n]⟩ ⟨2, ![8192, n]⟩ 0 4) (t : Fin 2048) (k : Fin n) :
    Layout.block ⟨2, ![2048, n]⟩ ⟨2, ![8192, n]⟩ 0 4 c v h (ix2 t k) = v (ix2 (tok c t) k) := by
  refine congrArg v (Layout.idx_ext fun b => ?_)
  match b with
  | ⟨0, _⟩ => exact h.idx_val_self c _ _ rfl
  | ⟨1, _⟩ => exact h.idx_val_of_ne c _ _ Nat.one_ne_zero

/-- A device's experts. -/
theorem experts_apply {α : Type} (D : Dev nD) (v : (⟨3, ![16, 512, 1024]⟩ : Shape).Idx → α) (h : Layout.Tiles ⟨3, ![4, 512, 1024]⟩ ⟨3, ![16, 512, 1024]⟩ 0 4)
    (j : Fin 4) (d : Fin 512) (k : Fin 1024) :
    Layout.block ⟨3, ![4, 512, 1024]⟩ ⟨3, ![16, 512, 1024]⟩ 0 4 D v h (ix3 j d k) = v (ix3 (ex D j) d k) := by
  refine congrArg v (Layout.idx_ext fun b => ?_)
  match b with
  | ⟨0, _⟩ => exact (h.idx_val_self D _ _ rfl).trans (congrArg (· + j.val) (Nat.mul_comm D.val 4))
  | ⟨1, _⟩ => exact h.idx_val_of_ne D _ _ Nat.one_ne_zero
  | ⟨2, _⟩ => exact h.idx_val_of_ne D _ _ (Nat.succ_ne_zero 1)

/-- A sum over the devices' experts is a sum over all sixteen. -/
theorem sum_experts (f : Fin 16 → EReal) : ∑ D : Dev nD, ∑ j : Fin 4, f (ex D j) = ∑ e, f e := by
  rw [Fin.sum_univ_tiles 4 4 rfl f]
  exact Finset.sum_congr rfl fun D _ => Finset.sum_congr rfl fun j _ => congrArg f (Fin.ext (congrArg (· + j.val) (Nat.mul_comm 4 D.val)))

/-- The layer at one token and one column: scaling the tokens and then taking the products is combining the products. -/
theorem layer (i0 i1 : BitVec 32) (p : Fin 16 → EReal) (x : Fin 512 → EReal) (M : Fin 16 → Fin 512 → EReal) (q : Fin 16 → ℝ)
    (hq : ∀ e, 0 < q e ∧ p e = (q e : EReal)) (hn : ∃ a : Fin 16, i0 = BitVec.ofNat 32 a.val ∨ i1 = BitVec.ofNat 32 a.val) :
    ∑ e, ∑ d, x d * Cert.Moe.weight i0 i1 p e * M e d = Cert.Moe.plain i0 i1 p fun e => ∑ d, x d * M e d := by
  obtain ⟨hw, hs⟩ := Cert.Moe.combine i0 i1 p (fun e => ∑ d, x d * M e d) q hq hn
  refine Eq.trans (Finset.sum_congr rfl fun e _ => ?_) hs
  obtain ⟨r, h0, hr⟩ := hw e
  rw [hr, Cert.Moe.mul_sum_real _ _ r h0]
  exact Finset.sum_congr rfl fun d _ => by rw [mul_comm (x d), mul_assoc]

/-- A device's result, from whole arrays of which every device holds its part. -/
theorem result_block (m : (ℓ : Loc nD τ sig) → Buf (Elt Ideal) ℓ) (X : FVec Ideal ⟨2, ![8192, 512]⟩ .bf16) (R : FVec Ideal S512x16 .bf16) (I : IVec ⟨2, ![8192, 2]⟩ 32)
    (V : FVec Ideal ⟨3, ![16, 512, 1024]⟩ .bf16)
    (hX : ∀ c : Dev nD, m ((c.tc : Thread nD τ).loc main_arg0) = Layout.block ⟨2, ![2048, 512]⟩ ⟨2, ![8192, 512]⟩ 0 4 c X)
    (hR : ∀ c : Dev nD, m ((c.tc : Thread nD τ).loc main_arg1) = R)
    (hI : ∀ c : Dev nD, m ((c.tc : Thread nD τ).loc main_arg2) = Layout.block ⟨2, ![2048, 2]⟩ ⟨2, ![8192, 2]⟩ 0 4 c I)
    (hV : ∀ c : Dev nD, m ((c.tc : Thread nD τ).loc main_arg3) = Layout.block ⟨3, ![4, 512, 1024]⟩ ⟨3, ![16, 512, 1024]⟩ 0 4 c V)
    (rX : ∀ (c : Dev nD) (t : Fin 2048) (d : Fin 512), ∃ r : ℝ, X (ix2 (tok c t) d) = r) (rR : ∀ (d : Fin 512) (e : Fin 16), ∃ r : ℝ, R (ix2 d e) = r)
    (hn : ∀ (c : Dev nD) (t : Fin 2048), ∃ a : Fin 16, I (ix2 (tok c t) 0) = BitVec.ofNat 32 a.val ∨ I (ix2 (tok c t) 1) = BitVec.ofNat 32 a.val)
    (c : Dev nD) (t : Fin 2048) (h : Fin 1024) :
    outOf m c (ix2 t h) = Cert.Moe.plain (I (ix2 (tok c t) 0)) (I (ix2 (tok c t) 1))
      (Cert.Moe.prob fun e => ∑ d : Fin 512, X (ix2 (tok c t) d) * R (ix2 d e)) (fun e => ∑ d : Fin 512, X (ix2 (tok c t) d) * V (ix3 e d h)) := by
  have eX (d : Fin 512) : Xof m c (ix2 t d) = X (ix2 (tok c t) d) := by rw [Xof_eq]; exact (congrFun (hX c) _).trans (rows_apply c X _ t d)
  have eI (k : Fin 2) : Iof m c (ix2 t k) = I (ix2 (tok c t) k) := by rw [Iof_eq]; exact (congrFun (hI c) _).trans (rows_apply c I _ t k)
  have eR (d : Fin 512) (e : Fin 16) : Rof m c (ix2 d e) = R (ix2 d e) := by rw [Rof_eq]; exact congrFun (hR c) _
  have eV (D : Dev nD) (j : Fin 4) (d : Fin 512) : Wof m D (ix3 j d h) = V (ix3 (ex D j) d h) := by rw [Wof_eq]; exact (congrFun (hV D) _).trans (experts_apply D V _ j d h)
  have eB (d : Fin 512) : k0_pay5 (Xof m c) (ix2 t d) = X (ix2 (tok c t) d) := by rw [← eX]; pointwise [k0_pay5]
  choose rx hrx using rX c t
  choose rr hrr using rR
  obtain ⟨q, hq⟩ := Cert.Moe.prob_real (fun e => ∑ d : Fin 512, X (ix2 (tok c t) d) * R (ix2 d e)) (fun e => ∑ d, rx d * rr d e)
    fun e => Cert.Moe.sum_real _ _ _ fun d => by rw [hrx, hrr, EReal.coe_mul]
  refine ((sum13_apply (Wof m) c _ _ t h).trans ?_).trans
    (layer _ _ _ (fun d => X (ix2 (tok c t) d)) (fun e d => V (ix3 e d h)) q hq (hn c t))
  rw [← sum_experts]
  refine Finset.sum_congr rfl fun D _ => Finset.sum_congr rfl fun j _ => Finset.sum_congr rfl fun d _ => ?_
  rw [eB, eV, wgt_apply]
  simp only [eX, eI, eR]

end Cert.KernelIdeal.Moe

end
-- ==== Proof.lean ====
/-
The claims together: the kernel, its idealization and the reference each run to an end with their arguments unchanged and
every semaphore counter at zero, the idealization is the kernel's own text, and on the extended reals the kernel's result is
the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_finite_KernelIdeal
public import proofs.«01_k».proof.Proof.Gen.Pre_routed_finite_ReferenceIdeal
public import proofs.«01_k».proof.Proof.Copy
public import proofs.«01_k».proof.Proof.Equation
public import Idealize.ShloMosaic.Lib.Quiescent

@[expose] public section

noncomputable section

namespace Cert.Proof

open Idealize.ShloMosaic Idealize.SL.Sem

/-- The kernel runs to an end on the machine's own floats. -/
theorem frame_kernel : Cert.quiescent_Kernel := fun m g _ => Cert.Kernel.Moe.run_frame m g

/-- So does its idealization, on the extended reals. -/
theorem frame_ideal : Cert.quiescent_KernelIdeal := fun m g _ =>
  (θ_run Cert.KernelIdeal.defs _ _).mono (fun _ h => ⟨fun c => (h.1 c).2, h.2⟩) (Cert.KernelIdeal.Moe.run_value m g)

/-- So does the reference, which has no semaphore at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Each device's result is its rows of the reference's, once the tokens and the router are real and every token names an
    expert there is. -/
theorem value : Cert.algebraic_KernelIdeal_ReferenceIdeal_pre_routed_finite_KernelIdeal := by
  intro m g m' g' hp hm
  refine ⟨Cert.ReferenceIdeal.Value.res_main_v41 m' 0, ?_, ?_⟩
  · refine (θ_run Cert.KernelIdeal.defs _ _).mono (fun r h c => ⟨(h.1 c).1.trans ?_, (h.1 c).2⟩) (Cert.KernelIdeal.Moe.run_value m g)
    refine Cert.KernelIdeal.Moe.result_ext _ _ fun t k => ?_
    refine (Cert.KernelIdeal.Moe.result_block m (m' ((0 : Dev Cert.ReferenceIdeal.nD).tc.loc Cert.ReferenceIdeal.main_arg0))
      (m' ((0 : Dev Cert.ReferenceIdeal.nD).tc.loc Cert.ReferenceIdeal.main_arg1)) (m' ((0 : Dev Cert.ReferenceIdeal.nD).tc.loc Cert.ReferenceIdeal.main_arg2))
      (m' ((0 : Dev Cert.ReferenceIdeal.nD).tc.loc Cert.ReferenceIdeal.main_arg3)) (fun c => (hm c).1) (fun c => (hm c).2.1) (fun c => (hm c).2.2.1) (fun c => (hm c).2.2.2)
      (fun c t d => ?_) (fun d e => ?_) (fun c t => ?_) c t k).trans ?_
    · obtain ⟨r, hr⟩ := Cert.Pre_routed_finite_KernelIdeal.Moe.tokens_real _ _ _ _ (hp c).1 t d
      exact ⟨r, ((Cert.KernelIdeal.Moe.rows_apply c _ _ t d).symm.trans (congrFun (hm c).1 _).symm).trans hr⟩
    · obtain ⟨r, hr⟩ := Cert.Pre_routed_finite_KernelIdeal.Moe.router_real _ _ _ _ (hp c).2.1 d e
      exact ⟨r, (congrFun (hm c).2.1 _).symm.trans hr⟩
    · obtain ⟨a, ha⟩ := Cert.Pre_routed_finite_KernelIdeal.Moe.named _ _ _ _ (hp c).2.2 t
      have e (k : Fin 2) := (Cert.KernelIdeal.Moe.rows_apply c _ _ t k).symm.trans (congrFun (hm c).2.2.1 (ix2 t k)).symm
      exact ⟨a, ha.imp (e 0).trans (e 1).trans⟩
    · exact ((Cert.KernelIdeal.Moe.rows_apply c _ _ t k).trans (Cert.ReferenceIdeal.Moe.res_apply m' 0 _ _ _ _ rfl rfl rfl rfl _ k)).symm
  · exact (θ_run Cert.ReferenceIdeal.defs _ _).mono (fun r h => h 0) (Cert.ReferenceIdeal.Value.run m' g')

/-- All the claims. -/
theorem claim : Cert.Claim := ⟨Cert.Kernel.Gen.facts, Cert.KernelIdeal.Gen.facts, Cert.ReferenceIdeal.Gen.facts,
  Cert.Pre_routed_finite_KernelIdeal.Gen.facts, Cert.Pre_routed_finite_ReferenceIdeal.Gen.facts,
  frame_kernel, frame_ideal, fun m g _ => frame_ideal m g trivial, frame_reference, fun m g _ => frame_reference m g trivial, trivial, value⟩

end Cert.Proof

end
